-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_layer [hPre_plain_layer : Cert.Pre_plain_layer.Facts] (m : (ℓ : Loc Cert.KernelIdeal.nD Cert.KernelIdeal.τ Cert.KernelIdeal.sig) → Buf (Elt Ideal) ℓ) : Prop :=
  ∀ c : Dev Cert.KernelIdeal.nD,
    (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_plain_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_layer [hPre_plain_layer : Cert.Pre_plain_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_plain_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_plain_layer [hKernelIdeal : Cert.KernelIdeal.Facts] [hPre_plain_layer : Cert.Pre_plain_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_plain_layer [hReferenceIdeal : Cert.ReferenceIdeal.Facts] [hPre_plain_layer : Cert.Pre_plain_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_plain_layer [hKernelIdeal : Cert.KernelIdeal.Facts] [hReferenceIdeal : Cert.ReferenceIdeal.Facts] [hPre_plain_layer : Cert.Pre_plain_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_plain_layer : Cert.Pre_plain_layer.Facts),
    quiescent_Kernel (hKernel := hKernel)
    ∧ quiescent_KernelIdeal (hKernelIdeal := hKernelIdeal)
    ∧ quiescent_KernelIdeal_pre_plain_layer (hKernelIdeal := hKernelIdeal) (hPre_plain_layer := hPre_plain_layer)
    ∧ quiescent_ReferenceIdeal (hReferenceIdeal := hReferenceIdeal)
    ∧ quiescent_ReferenceIdeal_pre_plain_layer (hReferenceIdeal := hReferenceIdeal) (hPre_plain_layer := hPre_plain_layer)
    ∧ preserves_Kernel_KernelIdeal
    ∧ algebraic_KernelIdeal_ReferenceIdeal_pre_plain_layer (hKernelIdeal := hKernelIdeal) (hReferenceIdeal := hReferenceIdeal) (hPre_plain_layer := hPre_plain_layer)
-- ==== Pre_plain_layer.lean ====
abbrev S256x128x1024 : Shape := ⟨3, ![256, 128, 1024]⟩
abbrev S256x1x128x128 : Shape := ⟨4, ![256, 1, 128, 128]⟩
abbrev S128 : Shape := ⟨1, ![128]⟩
abbrev S1024x1024 : Shape := ⟨2, ![1024, 1024]⟩
abbrev S1024 : Shape := ⟨1, ![1024]⟩
abbrev S_ : Shape := ⟨0, ![]⟩
abbrev S256x1x128 : Shape := ⟨3, ![256, 1, 128]⟩

class Facts : Prop where
  reducesTo_S256x1x128x128_S256x1x128_d3 : S256x1x128x128.ReducesTo [3] S256x1x128
  h_S_ : 0 < S_.numel
  bcast_S_S256x128x1024 : S_.BroadcastsInDim S256x128x1024 (![] : Fin 0 → Fin S256x128x1024.rank)
  bcast_S_S256x1x128 : S_.BroadcastsInDim S256x1x128 (![] : Fin 0 → Fin S256x1x128.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg4 : FVec F S1024 .f32) (main_arg8 : FVec F S1024 .f32) (main_arg9 : FVec F S1024x1024 .f32) (main_arg10 : FVec F S1024 .f32) (main_arg11 : FVec F S1024 .f32) (main_arg12 : FVec F S1024 .f32) (main_v3 : IVec S256x128x1024 1) (main_v6 : IVec S256x1x128 1) (main_v9 : IVec S1024x1024 1) (main_v12 : IVec S1024x1024 1) (main_v15 : IVec S1024 1) (main_v16 : FVec F S1024x1024 .f32) (main_cst_5 : FVec F S_ .f32) : IVec S256x128x1024 1 × IVec S256x1x128 1 × IVec S1024x1024 1 × IVec S1024x1024 1 × IVec S1024 1 × IVec S1024x1024 1 × IVec S1024x1024 1 × IVec S1024 1 × IVec S1024 1 × IVec S1024 1 × IVec S1024 1 × IVec S1024 1 :=
  let main_v17 : FVec F S1024x1024 .f32 := broadcastInDim S1024x1024 ![] bcast_S_S1024x1024 main_cst_5
  let main_v18 : IVec S1024x1024 1 := cmpf .olt main_v16 main_v17
  let main_v19 : FVec F S1024x1024 .f32 := Host.absf main_arg9
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_cst_7 : FVec F S_ .f32 := constant S_ .f32 0x00000000#32
  let main_v22 : FVec F S1024 .f32 := broadcastInDim S1024 ![] bcast_S_S1024 main_cst_7
  let main_v23 : IVec S1024 1 := cmpf .oeq main_arg4 main_v22
  let main_cst_8 : FVec F S_ .f32 := constant S_ .f32 0x00000000#32
  let main_v24 : FVec F S1024 .f32 := broadcastInDim S1024 ![] bcast_S_S1024 main_cst_8
  let main_v25 : IVec S1024 1 := cmpf .oeq main_arg8 main_v24
  let main_cst_9 : FVec F S_ .f32 := constant S_ .f32 0x00000000#32
  let main_v26 : FVec F S1024 .f32 := broadcastInDim S1024 ![] bcast_S_S1024 main_cst_9
  let main_v27 : IVec S1024 1 := cmpf .oeq main_arg10 main_v26
  let main_cst_10 : FVec F S_ .f32 := constant S_ .f32 0x3F800000#32
  let main_v28 : FVec F S1024 .f32 := broadcastInDim S1024 ![] bcast_S_S1024 main_cst_10
  let main_v29 : IVec S1024 1 := cmpf .oeq main_arg11 main_v28
  let main_cst_11 : FVec F S_ .f32 := constant S_ .f32 0x00000000#32
  let main_v30 : FVec F S1024 .f32 := broadcastInDim S1024 ![] bcast_S_S1024 main_cst_11
  let main_v31 : IVec S1024 1 := cmpf .oeq main_arg12 main_v30
  (main_v3, main_v6, main_v9, main_v12, main_v15, main_v18, main_v21, main_v23, main_v25, main_v27, main_v29, main_v31)

def fn {F : FTy → Type} [FloatOps F] (main_arg0 : FVec F S256x128x1024 .f32) (main_arg1 : FVec F S256x1x128x128 .f32) (main_arg2 : IVec S128 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) : IVec S256x128x1024 1 × IVec S256x1x128 1 × IVec S1024x1024 1 × IVec S1024x1024 1 × IVec S1024 1 × IVec S1024x1024 1 × IVec S1024x1024 1 × IVec S1024 1 × IVec S1024 1 × IVec S1024 1 × IVec S1024 1 × IVec S1024 1 :=
  let main_cst : FVec F S_ .f32 := constant S_ .f32 0xFF800000#32
  let main_v0 : FVec F S256x1x128 .f32 := (fun x v => Host.reduce FloatOps.maximumf x v reducesTo_S256x1x128x128_S256x1x128_d3 h_S_) main_arg1 main_cst
  let main_v1 : FVec F S256x128x1024 .f32 := Host.absf main_arg0
  let main_cst_0 : FVec F S_ .f32 := constant S_ .f32 0x7F800000#32
  let main_v2 : FVec F S256x128x1024 .f32 := broadcastInDim S256x128x1024 ![] bcast_S_S256x128x1024 main_cst_0
  let main_v3 : IVec S256x128x1024 1 := cmpf .olt main_v1 main_v2
  let main_v4 : FVec F S256x1x128 .f32 := Host.absf main_v0
  let main_cst_1 : FVec F S_ .f32 := constant S_ .f32 0x7F800000#32
  let main_v5 : FVec F S256x1x128 .f32 := broadcastInDim S256x1x128 ![] bcast_S_S256x1x128 main_cst_1
  let main_v6 : IVec S256x1x128 1 := cmpf .olt main_v4 main_v5
  let main_v7 : FVec F S1024x1024 .f32 := Host.absf main_arg3
  let main_cst_2 : FVec F S_ .f32 := constant S_ .f32 0x7F800000#32
  let main_v8 : FVec F S1024x1024 .f32 := broadcastInDim S1024x1024 ![] bcast_S_S1024x1024 main_cst_2
  let main_v9 : IVec S1024x1024 1 := cmpf .olt main_v7 main_v8
  let main_v10 : FVec F S1024x1024 .f32 := Host.absf main_arg5
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_v13 : FVec F S1024 .f32 := Host.absf main_arg6
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_v16 : FVec F S1024x1024 .f32 := Host.absf main_arg7
  let main_cst_5 : FVec F S_ .f32 := constant S_ .f32 0x7F800000#32
  fn_part1 (F := F) main_arg4 main_arg8 main_arg9 main_arg10 main_arg11 main_arg12 main_v3 main_v6 main_v9 main_v12 main_v15 main_v16 main_cst_5
-- ==== Kernel.lean ====
abbrev S256x128x1024 : Shape := ⟨3, ![256, 128, 1024]⟩
abbrev S256x1x128x128 : Shape := ⟨4, ![256, 1, 128, 128]⟩
abbrev S128 : Shape := ⟨1, ![128]⟩
abbrev S1024x1024 : Shape := ⟨2, ![1024, 1024]⟩
abbrev S1024 : Shape := ⟨1, ![1024]⟩
abbrev S256 : Shape := ⟨1, ![256]⟩
abbrev S_ : Shape := ⟨0, ![]⟩
abbrev S2048x1024 : Shape := ⟨2, ![2048, 1024]⟩
abbrev S8x128x1024 : Shape := ⟨3, ![8, 128, 1024]⟩
abbrev S1x1x128x128 : Shape := ⟨4, ![1, 1, 128, 128]⟩
abbrev S1 : Shape := ⟨1, ![1]⟩
abbrev S1024x2048 : Shape := ⟨2, ![1024, 2048]⟩
abbrev S1024x64 : Shape := ⟨2, ![1024, 64]⟩
abbrev S128x128 : Shape := ⟨2, ![128, 128]⟩
abbrev S128x64 : Shape := ⟨2, ![128, 64]⟩
abbrev S64x128 : Shape := ⟨2, ![64, 128]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S1x128x1024 : Shape := ⟨3, ![1, 128, 1024]⟩

abbrev nBuf : Space → Nat
  | .hbm => 27
  | .vmem => 25
  | .smem => 1
  | _ => 0

abbrev bufTy : (tb : Table) → Fin (tcTables nBuf tb) → BufTy
  | .hbm, ⟨0, _⟩ => ⟨S256x128x1024, .f32⟩
  | .hbm, ⟨1, _⟩ => ⟨S256x1x128x128, .f32⟩
  | .hbm, ⟨2, _⟩ => ⟨S128, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S2048x1024, .f32⟩
  | .hbm, ⟨23, _⟩ => ⟨S2048x1024, .bf16⟩
  | .hbm, ⟨24, _⟩ => ⟨S1024x1024, .bf16⟩
  | .hbm, ⟨25, _⟩ => ⟨S1024x1024, .bf16⟩
  | .hbm, ⟨26, _⟩ => ⟨S256x128x1024, .f32⟩
  | .local _ .vmem, ⟨0, _⟩ => ⟨S8x128x1024, .f32⟩
  | .local _ .vmem, ⟨1, _⟩ => ⟨S8x128x1024, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128x128, .f32⟩
  | .local _ .vmem, ⟨17, _⟩ => ⟨S1x1x128x128, .f32⟩
  | .local _ .vmem, ⟨18, _⟩ => ⟨S2048x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x128x1024, .f32⟩
  | .local _ .vmem, ⟨22, _⟩ => ⟨S8x128x1024, .f32⟩
  | .local _ .vmem, ⟨23, _⟩ => ⟨S1024x2048, .bf16⟩
  | .local _ .vmem, ⟨24, _⟩ => ⟨S1024x1024, .bf16⟩
  | .local _ .smem, ⟨0, _⟩ => ⟨S256, .i32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1_0 : Ref sig .tc := ⟨.hbm, 15, rfl⟩
abbrev main_v1 : Ref sig .tc := ⟨.hbm, 16, rfl⟩
abbrev main_call1_v0 : Ref sig .tc := ⟨.hbm, 17, rfl⟩
abbrev main_call1_v1_0 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S256) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_2 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S256) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S256) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S256) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_5 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S256) ![v2.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_6 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S256) ![v2.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_7 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S256) ![v2.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_8 (k0_off1_inb : ∀ i : grid0.Coords, ∀ (r : Fin 8), ∀ a, (k0_off1 i (BitVec.ofNat 32 r.val)) a + S1.size a ≤ S256.size a) (numel1_S1 : S1.numel = 1) (pf : pre0.Contents (Elt F)) (i : grid0.Coords) : Fin 4 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S256) ![v2.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S256x128x1024 : Shape := ⟨3, ![256, 128, 1024]⟩
abbrev S256x1x128x128 : Shape := ⟨4, ![256, 1, 128, 128]⟩
abbrev S128 : Shape := ⟨1, ![128]⟩
abbrev S1024x1024 : Shape := ⟨2, ![1024, 1024]⟩
abbrev S1024 : Shape := ⟨1, ![1024]⟩
abbrev S256 : Shape := ⟨1, ![256]⟩
abbrev S256x131072 : Shape := ⟨2, ![256, 131072]⟩
abbrev S_ : Shape := ⟨0, ![]⟩
abbrev S256x1 : Shape := ⟨2, ![256, 1]⟩
abbrev S1 : Shape := ⟨1, ![1]⟩
abbrev S1x1 : Shape := ⟨2, ![1, 1]⟩
abbrev S1x1x1024 : Shape := ⟨3, ![1, 1, 1024]⟩
abbrev S256x128x16x64 : Shape := ⟨4, ![256, 128, 16, 64]⟩
abbrev S256x16x128x64 : Shape := ⟨4, ![256, 16, 128, 64]⟩
abbrev S256x16x128x128 : Shape := ⟨4, ![256, 16, 128, 128]⟩
abbrev S256x16x128 : Shape := ⟨3, ![256, 16, 128]⟩
abbrev S256x16x128x1 : Shape := ⟨4, ![256, 16, 128, 1]⟩
abbrev S256x128 : Shape := ⟨2, ![256, 128]⟩
abbrev S256x128x1 : Shape := ⟨3, ![256, 128, 1]⟩

abbrev nBuf : Space → Nat
  | .hbm => 149
  | .vmem => 0
  | .smem => 0
  | _ => 0

abbrev hbmTy0_0 (i : Nat) : BufTy := match i % 128 with
  | 0 => ⟨S256x128x1024, .f32⟩
  | 1 => ⟨S256x1x128x128, .f32⟩
  | 2 => ⟨S128, .i32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024, .f32⟩
  | 12 => ⟨S1024, .f32⟩
  | 13 => ⟨S256, .i32⟩
  | 14 => ⟨S256, .i32⟩
  | 15 => ⟨S256, .i32⟩
  | 16 => ⟨S256, .i32⟩
  | 17 => ⟨S256x131072, .f32⟩
  | 18 => ⟨S_, .i32⟩
  | 19 => ⟨S256, .i32⟩
  | 20 => ⟨S256, .i1⟩
  | 21 => ⟨S_, .i32⟩
  | 22 => ⟨S256, .i32⟩
  | 23 => ⟨S256, .i32⟩
  | 24 => ⟨S256, .i32⟩
  | 25 => ⟨S256x1, .i32⟩
  | 26 => ⟨S1, .i32⟩
  | 27 => ⟨S_, .i32⟩
  | 28 => ⟨S256x1, .i32⟩
  | 29 => ⟨S256x1, .i1⟩
  | 30 => ⟨S1x1, .i32⟩
  | 31 => ⟨S256x1, .i32⟩
  | 32 => ⟨S256x1, .i1⟩
  | 33 => ⟨S256x1, .i1⟩
  | 34 => ⟨S_, .i1⟩
  | 35 => ⟨S256, .i1⟩
  | 36 => ⟨S256x131072, .f32⟩
  | 37 => ⟨S256x131072, .i1⟩
  | 38 => ⟨S_, .f32⟩
  | 39 => ⟨S256x131072, .f32⟩
  | 40 => ⟨S256x131072, .f32⟩
  | 41 => ⟨S256x128x1024, .f32⟩
  | 42 => ⟨S1024x1024, .f32⟩
  | 43 => ⟨S256x128x1024, .f32⟩
  | 44 => ⟨S1x1x1024, .f32⟩
  | 45 => ⟨S256x128x1024, .f32⟩
  | 46 => ⟨S256x128x1024, .f32⟩
  | 47 => ⟨S256x128x16x64, .f32⟩
  | 48 => ⟨S256x16x128x64, .f32⟩
  | 49 => ⟨S1024x1024, .f32⟩
  | 50 => ⟨S256x128x1024, .f32⟩
  | 51 => ⟨S1x1x1024, .f32⟩
  | 52 => ⟨S256x128x1024, .f32⟩
  | 53 => ⟨S256x128x1024, .f32⟩
  | 54 => ⟨S256x128x16x64, .f32⟩
  | 55 => ⟨S256x16x128x64, .f32⟩
  | 56 => ⟨S1024x1024, .f32⟩
  | 57 => ⟨S256x128x1024, .f32⟩
  | 58 => ⟨S1x1x1024, .f32⟩
  | 59 => ⟨S256x128x1024, .f32⟩
  | 60 => ⟨S256x128x1024, .f32⟩
  | 61 => ⟨S256x128x16x64, .f32⟩
  | 62 => ⟨S256x16x128x64, .f32⟩
  | 63 => ⟨S256x16x128x128, .f32⟩
  | 64 => ⟨S_, .f32⟩
  | 65 => ⟨S256x16x128x128, .f32⟩
  | 66 => ⟨S256x16x128x128, .f32⟩
  | 67 => ⟨S256x16x128x128, .f32⟩
  | 68 => ⟨S256x16x128x128, .f32⟩
  | 69 => ⟨S_, .f32⟩
  | 70 => ⟨S256x16x128, .f32⟩
  | 71 => ⟨S_, .f32⟩
  | 72 => ⟨S256x16x128, .f32⟩
  | 73 => ⟨S256x16x128, .f32⟩
  | 74 => ⟨S256x16x128x1, .f32⟩
  | 75 => ⟨S256x16x128x128, .f32⟩
  | 76 => ⟨S256x16x128x128, .f32⟩
  | 77 => ⟨S256x16x128x128, .f32⟩
  | 78 => ⟨S_, .f32⟩
  | 79 => ⟨S256x16x128, .f32⟩
  | 80 => ⟨S256x16x128x1, .f32⟩
  | 81 => ⟨S256x16x128x128, .f32⟩
  | 82 => ⟨S256x16x128x128, .f32⟩
  | 83 => ⟨S256x16x128x64, .f32⟩
  | 84 => ⟨S256x128x16x64, .f32⟩
  | 85 => ⟨S256x128x1024, .f32⟩
  | 86 => ⟨S1024x1024, .f32⟩
  | 87 => ⟨S256x128x1024, .f32⟩
  | 88 => ⟨S1x1x1024, .f32⟩
  | 89 => ⟨S256x128x1024, .f32⟩
  | 90 => ⟨S256x128x1024, .f32⟩
  | 91 => ⟨S256x128x1024, .f32⟩
  | 92 => ⟨S_, .f32⟩
  | 93 => ⟨S256x128, .f32⟩
  | 94 => ⟨S256x128x1, .f32⟩
  | 95 => ⟨S_, .f32⟩
  | 96 => ⟨S256x128x1, .f32⟩
  | 97 => ⟨S256x128x1, .f32⟩
  | 98 => ⟨S256x128x1024, .f32⟩
  | 99 => ⟨S256x128x1024, .f32⟩
  | 100 => ⟨S256x128x1024, .f32⟩
  | 101 => ⟨S_, .f32⟩
  | 102 => ⟨S256x128, .f32⟩
  | 103 => ⟨S256x128x1, .f32⟩
  | 104 => ⟨S_, .f32⟩
  | 105 => ⟨S256x128x1, .f32⟩
  | 106 => ⟨S256x128x1, .f32⟩
  | 107 => ⟨S256x128x1024, .f32⟩
  | 108 => ⟨S256x128x1024, .f32⟩
  | 109 => ⟨S_, .f32⟩
  | 110 => ⟨S256x128x1, .f32⟩
  | 111 => ⟨S256x128x1, .f32⟩
  | 112 => ⟨S256x128x1, .f32⟩
  | 113 => ⟨S256x128x1024, .f32⟩
  | 114 => ⟨S256x128x1024, .f32⟩
  | 115 => ⟨S1x1x1024, .f32⟩
  | 116 => ⟨S256x128x1024, .f32⟩
  | 117 => ⟨S256x128x1024, .f32⟩
  | 118 => ⟨S1x1x1024, .f32⟩
  | 119 => ⟨S256x128x1024, .f32⟩
  | 120 => ⟨S256x128x1024, .f32⟩
  | 121 => ⟨S256, .i32⟩
  | 122 => ⟨S256, .i32⟩
  | 123 => ⟨S256, .i32⟩
  | 124 => ⟨S256x131072, .f32⟩
  | 125 => ⟨S_, .i32⟩
  | 126 => ⟨S256, .i32⟩
  | 127 => ⟨S256, .i1⟩
  | _ => ⟨S256x128x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S1, .i32⟩
  | 6 => ⟨S_, .i32⟩
  | 7 => ⟨S256x1, .i32⟩
  | 8 => ⟨S256x1, .i1⟩
  | 9 => ⟨S1x1, .i32⟩
  | 10 => ⟨S256x1, .i32⟩
  | 11 => ⟨S256x1, .i1⟩
  | 12 => ⟨S256x1, .i1⟩
  | 13 => ⟨S_, .i1⟩
  | 14 => ⟨S256, .i1⟩
  | 15 => ⟨S256x131072, .f32⟩
  | 16 => ⟨S256x131072, .i1⟩
  | 17 => ⟨S_, .f32⟩
  | 18 => ⟨S256x131072, .f32⟩
  | 19 => ⟨S256x131072, .f32⟩
  | 20 => ⟨S256x128x1024, .f32⟩
  | _ => ⟨S256x128x1024, .f32⟩

abbrev hbmTy (i : Nat) : BufTy := match i / 128 with
  | 0 => hbmTy0_0 i
  | 1 => hbmTy0_1 i
  | _ => ⟨S256x128x1024, .f32⟩

abbrev bufTy : (tb : Table) → Fin (tcTables nBuf tb) → BufTy
  | .hbm, ⟨i, _⟩ => hbmTy i
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1_0 : Ref sig .tc := ⟨.hbm, 15, rfl⟩
abbrev main_v1 : Ref sig .tc := ⟨.hbm, 16, rfl⟩
abbrev main_v2 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_0 : Ref sig .tc := ⟨.hbm, 69, rfl⟩
abbrev main_v31 : Ref sig .tc := ⟨.hbm, 70, rfl⟩
abbrev main_cst_1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_2 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_3 : Ref sig .tc := ⟨.hbm, 92, rfl⟩
abbrev main_v51 : Ref sig .tc := ⟨.hbm, 93, rfl⟩
abbrev main_v52 : Ref sig .tc := ⟨.hbm, 94, rfl⟩
abbrev main_cst_4 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_5 : Ref sig .tc := ⟨.hbm, 101, rfl⟩
abbrev main_v58 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_7 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_call2_v0 : Ref sig .tc := ⟨.hbm, 121, rfl⟩
abbrev main_call2_v1_0 : Ref sig .tc := ⟨.hbm, 122, rfl⟩
abbrev main_v75 : Ref sig .tc := ⟨.hbm, 123, rfl⟩
abbrev main_v76 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v77 : Ref sig .tc := ⟨.hbm, 147, rfl⟩
abbrev main_v78 : Ref sig .tc := ⟨.hbm, 148, rfl⟩

abbrev nD : Nat := 1
abbrev τ : Topo := Topo.v7x

variable {F : FTy → Type} [FloatOps F]
-- ==== Proof.Argsort.lean ====
/- The argsort the host computes twice: a stable sort of an i32 vector carrying the positions. Its payload is a
   permutation of the positions, and the argsort of a permutation is that permutation's inverse. -/
module

public import Idealize.ShloMosaic.Lib.SortFacts
public import Idealize.ShloMosaic.Lib.PlanTiles.Sort4
public import Mathlib.Order.Monotone.Basic

@[expose] public section

noncomputable section

namespace Cert.Argsort

open Idealize.ShloMosaic Idealize.ShloMosaic.ValueIdx Idealize.ShloMosaic.Routing

/-- The comparator of an argsort: the keys alone, signed. -/
def cmpKey : BitVec 32 × BitVec 32 → BitVec 32 × BitVec 32 → BitVec 1 := fun l r => IntOp.cmpi .slt l.1 r.1

/-- The stable argsort of a vector of `n` words: the positions carried along the sort of the words. -/
def argsort {n : Nat} (x : IVec (shape1 n) 32) : IVec (shape1 n) 32 :=
  (Host.sort2 (shape1 n) 0 cmpKey x (iotaInDim (shape1 n) 32 0)).2

/-- The position whose word the argsort of `x` puts at `r`. -/
def src {n : Nat} (x : IVec (shape1 n) 32) (r : Fin n) : Fin n :=
  sortedFrom (fun a b : Fin n => decide ((x (ix1 a)).toInt < (x (ix1 b)).toInt)) r

/-- The argsort of `x`, read at `r`: the position `src x r`, as a word. -/
theorem argsort_apply {n : Nat} (x : IVec (shape1 n) 32) (r : Fin n) :
    argsort x (ix1 r) = BitVec.ofNat 32 (src x r).val := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hb : (fun a b : Fin n => cmpKey (x ((ix1 r).along ⟨0, hd⟩ a), iotaInDim (shape1 n) 32 0 ((ix1 r).along ⟨0, hd⟩ a))
        (x ((ix1 r).along ⟨0, hd⟩ b), iotaInDim (shape1 n) 32 0 ((ix1 r).along ⟨0, hd⟩ b)) == 1#1)
      = fun a b : Fin n => decide ((x (ix1 a)).toInt < (x (ix1 b)).toInt) := by
    funext a b
    show (IntOp.cmpi .slt (x ((ix1 r).along ⟨0, hd⟩ a)) (x ((ix1 r).along ⟨0, hd⟩ b)) == 1#1) = _
    rw [e (ix1 r) a, e (ix1 r) b]
    unfold IntOp.cmpi
    show (BitVec.ofBool ((x (ix1 a)).slt (x (ix1 b))) == 1#1) = _
    rw [BitVec.slt]
    by_cases h : (x (ix1 a)).toInt < (x (ix1 b)).toInt <;> simp [h]
  have hs : sortedFrom (n := n) (fun a b : Fin n => cmpKey (x ((ix1 r).along ⟨0, hd⟩ a), iotaInDim (shape1 n) 32 0 ((ix1 r).along ⟨0, hd⟩ a))
        (x ((ix1 r).along ⟨0, hd⟩ b), iotaInDim (shape1 n) 32 0 ((ix1 r).along ⟨0, hd⟩ b)) == 1#1) r = src x r := by
    rw [hb]; rfl
  unfold argsort Host.sort2
  rw [dif_pos hd]
  exact ((congrArg (fun c : Fin n => iotaInDim (shape1 n) 32 0 ((ix1 r).along ⟨0, hd⟩ c)) hs).trans
    (congrArg (iotaInDim (shape1 n) 32 0) (e _ _))).trans rfl

/-- The argsort names each position once. -/
theorem src_injective {n : Nat} (x : IVec (shape1 n) 32) : Function.Injective (src x) := sortedFrom_injective _
/-- The argsort names every position. -/
theorem src_surjective {n : Nat} (x : IVec (shape1 n) 32) : Function.Surjective (src x) := sortedFrom_surjective _

/-- A later entry of the argsort never names a smaller word. -/
theorem src_sorted {n : Nat} (x : IVec (shape1 n) 32) (i j : Fin n) (hij : i < j) :
    (x (ix1 (src x i))).toInt ≤ (x (ix1 (src x j))).toInt := by
  have h := sortedFrom_noInversion (fun a b : Fin n => decide ((x (ix1 a)).toInt < (x (ix1 b)).toInt))
    (fun a b : Fin n => decide ((x (ix1 a)).toInt < (x (ix1 b)).toInt))
    (by intro a b h; simp only [decide_eq_true_eq, decide_eq_false_iff_not] at *; omega)
    (by intro a b h; exact h)
    (by intro a b c h h'; simp only [decide_eq_false_iff_not] at *; omega) i j hij
  simp only [decide_eq_false_iff_not] at h
  exact Int.not_lt.mp h

/-- An increasing map of the positions to themselves is the identity. -/
theorem eq_self_of_increasing {n : Nat} (f : Fin n → Fin n) (hf : ∀ i j, i < j → f i < f j) (i : Fin n) : f i = i := by
  have lo : ∀ k (h : k < n), k ≤ (f ⟨k, h⟩).val := by
    intro k
    induction k with
    | zero => intro h; exact Nat.zero_le _
    | succ k ih =>
      intro h
      have h1 := ih (Nat.lt_of_succ_lt h)
      have h2 : f ⟨k, Nat.lt_of_succ_lt h⟩ < f ⟨k + 1, h⟩ := hf _ _ (Fin.mk_lt_mk.mpr (Nat.lt_succ_self k))
      have h3 : (f ⟨k, Nat.lt_of_succ_lt h⟩).val < (f ⟨k + 1, h⟩).val := h2
      omega
  have hi : ∀ d k (h : k < n), n - k = d → (f ⟨k, h⟩).val ≤ k := by
    intro d
    induction d with
    | zero => intro k h hd; omega
    | succ d ih =>
      intro k h hd
      by_cases hk : k + 1 < n
      · have h1 := ih (k + 1) hk (by omega)
        have h2 : f ⟨k, h⟩ < f ⟨k + 1, hk⟩ := hf _ _ (Fin.mk_lt_mk.mpr (Nat.lt_succ_self k))
        have h3 : (f ⟨k, h⟩).val < (f ⟨k + 1, hk⟩).val := h2
        omega
      · have := (f ⟨k, h⟩).isLt
        omega
  exact Fin.ext (Nat.le_antisymm (hi _ i.val i.isLt rfl) (lo i.val i.isLt))

/-- Two argsorts in a row invert one another: entry `src (argsort x) r` of the first argsort is `r`. -/
theorem src_src {n : Nat} (hn : n ≤ 2 ^ 31) (x : IVec (shape1 n) 32) (r : Fin n) : src x (src (argsort x) r) = r := by
  have hv : ∀ a : Fin n, (argsort x (ix1 a)).toInt = ((src x a).val : Int) := by
    intro a
    rw [argsort_apply]
    have := (src x a).isLt
    rw [BitVec.toInt_eq_toNat_of_lt (by rw [BitVec.toNat_ofNat, Nat.mod_eq_of_lt (by omega)]; omega), BitVec.toNat_ofNat,
      Nat.mod_eq_of_lt (by omega)]
  refine eq_self_of_increasing (fun r => src x (src (argsort x) r)) ?_ r
  intro i j hij
  have h := src_sorted (argsort x) i j hij
  rw [hv, hv] at h
  rcases Nat.lt_or_ge (src x (src (argsort x) i)).val (src x (src (argsort x) j)).val with h' | h'
  · exact h'
  · exact absurd (src_injective _ (src_injective _ (Fin.ext (by omega : (src x (src (argsort x) i)).val = _)))) (Fin.ne_of_lt hij)

end Cert.Argsort

end
-- ==== Proof.KernelIdealFrame.lean ====
/- The pipeline of KernelIdeal, whole: what the output block and the carried scratch hold after each grid point, the proof
   data, the body's obligation at a point, the run, and the frame — under `Gen.Ok m`, the side condition on the
   prefetched table, which the table's module proves. -/
module

public import proofs.«01_k».proof.Proof.Gen.KernelIdeal.Frame.RunB
public import Idealize.ShloMosaic.Lib.Claim

@[expose] public section

-- membership in a rectangle (`View.cover_of_tiled`) recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 12 tile its block (8 stores of `S1x128x1024`), so they cover it. -/
theorem cover0_A_12 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (y : S8x128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).1 S1x128x1024.size (by sl_kernel_rfl) y

/-- What case A leaves in output 12's staging buffer: its pieces read back over junk. -/
def out0_A_12 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) : Vec F S8x128x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).1)

/-- Case A's pieces for scratch `arg15`, which the kernel carries between points, cover it: one of them a store of the WHOLE buffer (Lib/Ring.lean `sl_whole_mem`). -/
theorem scover0_A_0 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).2.1 (by sl_whole_mem) y

/-- What case A leaves in scratch `arg15`: its pieces read back over junk. -/
def sout0_A_0 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).2.1)

/-- Case B's pieces for output 12 tile its block (8 stores of `S1x128x1024`), so they cover it. -/
theorem cover0_B_12 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : ¬cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (xs0 : Vec F S1024x2048 .bf16) (y : S8x128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).1 S1x128x1024.size (by sl_kernel_rfl) y

/-- What case B leaves in output 12's staging buffer: its pieces read back over junk. -/
def out0_B_12 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : ¬cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (xs0 : Vec F S1024x2048 .bf16) : Vec F S8x128x1024 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).1)

/-- What case B leaves in scratch `arg15`: its pieces (stores, a counted loop's segment) read back over what the point before left there, which it read first. -/
def sout0_B_0 (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : ¬cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (xs0 : Vec F S1024x2048 .bf16) : Vec F S1024x2048 .bf16 :=
  arg15.view.read (Elt F) (arg15.view.writes (Elt F) (harg15.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).2.1)

/-! ## What the outputs hold after each point -/

/-- What the output block and the carried scratch hold after the first point `t`, which finds nothing in the scratch. -/
def caseA (hO : Ok m) (c : Dev nD) (t : Fin (cfgM m hO).N) (h0 : t.val % 32 = 0) : Vec F S8x128x1024 .f32 × Vec F S1024x2048 .bf16 :=
  (out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0))

/-- What they hold after a later point `t`, which finds `prev` in the scratch. -/
def caseB (hO : Ok m) (c : Dev nD) (t : Fin (cfgM m hO).N) (h0 : ¬t.val % 32 = 0) (prev : Vec F S1024x2048 .bf16) :
    Vec F S8x128x1024 .f32 × Vec F S1024x2048 .bf16 :=
  (out0_B_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev)

/-- What the output block and the carried scratch hold after the point at position `n`. -/
def outsAt0 (hO : Ok m) (c : Dev nD) : (n : ℕ) → n < (cfgM m hO).N → Vec F S8x128x1024 .f32 × Vec F S1024x2048 .bf16
  | 0, hn => caseA m hO c ⟨0, hn⟩ (Nat.zero_mod _)
  | n + 1, hn =>
    if h0 : (n + 1) % 32 = 0 then caseA m hO c ⟨n + 1, hn⟩ h0
    else caseB m hO c ⟨n + 1, hn⟩ h0 (outsAt0 hO c n (Nat.lt_of_succ_lt hn)).2

/-- `outsAt0` at the first point. -/
theorem outsAt0_A (hO : Ok m) (c : Dev nD) (t : Fin (cfgM m hO).N) (h0 : t.val % 32 = 0) :
    outsAt0 m hO c t.val t.isLt = caseA m hO c t h0 := by
  obtain ⟨n, hn⟩ := t
  cases n with
  | zero => rw [outsAt0]
  | succ n => rw [outsAt0]; exact dif_pos h0

/-- `outsAt0` at a later point, over what the point before left. -/
theorem outsAt0_B (hO : Ok m) (c : Dev nD) (t : Fin (cfgM m hO).N) (h0 : ¬t.val % 32 = 0) :
    outsAt0 m hO c t.val t.isLt = caseB m hO c t h0 (outsAt0 m hO c (t.val - 1) (Nat.lt_of_le_of_lt (Nat.sub_le _ _) t.isLt)).2 := by
  obtain ⟨n, hn⟩ := t
  cases n with
  | zero => exact absurd (Nat.zero_mod _) h0
  | succ n => rw [outsAt0]; exact dif_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c)

/-- Before the first point: every scratch at anything, and the tables. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), `V` left folded. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- The body leaves the buffer of input window 0 at its block. -/
theorem after0_0 (hO : Ok m) (c : Dev nD) (t : Fin (cfgM m hO).N) : (dats m hO 0 c).after 0 t = iblk m hO c 0 t := by dsimp only [dats]; try rfl
/-- The body leaves the buffer of input window 1 at its block. -/
theorem after0_1 (hO : Ok m) (c : Dev nD) (t : Fin (cfgM m hO).N) : (dats m hO 0 c).after 1 t = iblk m hO c 1 t := by dsimp only [dats]; try rfl
/-- The body leaves the buffer of input window 2 at its block. -/
theorem after0_2 (hO : Ok m) (c : Dev nD) (t : Fin (cfgM m hO).N) : (dats m hO 0 c).after 2 t = iblk m hO c 2 t := by dsimp only [dats]; try rfl
/-- The body leaves the buffer of input window 3 at its block. -/
theorem after0_3 (hO : Ok m) (c : Dev nD) (t : Fin (cfgM m hO).N) : (dats m hO 0 c).after 3 t = iblk m hO c 3 t := by dsimp only [dats]; try rfl
/-- The body leaves the buffer of input window 4 at its block. -/
theorem after0_4 (hO : Ok m) (c : Dev nD) (t : Fin (cfgM m hO).N) : (dats m hO 0 c).after 4 t = iblk m hO c 4 t := by dsimp only [dats]; try rfl
/-- The body leaves the buffer of input window 5 at its block. -/
theorem after0_5 (hO : Ok m) (c : Dev nD) (t : Fin (cfgM m hO).N) : (dats m hO 0 c).after 5 t = iblk m hO c 5 t := by dsimp only [dats]; try rfl
/-- The body leaves the buffer of input window 6 at its block. -/
theorem after0_6 (hO : Ok m) (c : Dev nD) (t : Fin (cfgM m hO).N) : (dats m hO 0 c).after 6 t = iblk m hO c 6 t := by dsimp only [dats]; try rfl
/-- The body leaves the buffer of input window 7 at its block. -/
theorem after0_7 (hO : Ok m) (c : Dev nD) (t : Fin (cfgM m hO).N) : (dats m hO 0 c).after 7 t = iblk m hO c 7 t := by dsimp only [dats]; try rfl
/-- The body leaves the buffer of input window 8 at its block. -/
theorem after0_8 (hO : Ok m) (c : Dev nD) (t : Fin (cfgM m hO).N) : (dats m hO 0 c).after 8 t = iblk m hO c 8 t := by dsimp only [dats]; try rfl
/-- The body leaves the buffer of input window 9 at its block. -/
theorem after0_9 (hO : Ok m) (c : Dev nD) (t : Fin (cfgM m hO).N) : (dats m hO 0 c).after 9 t = iblk m hO c 9 t := by dsimp only [dats]; try rfl
/-- The body leaves the buffer of input window 10 at its block. -/
theorem after0_10 (hO : Ok m) (c : Dev nD) (t : Fin (cfgM m hO).N) : (dats m hO 0 c).after 10 t = iblk m hO c 10 t := by dsimp only [dats]; try rfl
/-- The body leaves the buffer of input window 11 at its block. -/
theorem after0_11 (hO : Ok m) (c : Dev nD) (t : Fin (cfgM m hO).N) : (dats m hO 0 c).after 11 t = iblk m hO c 11 t := by dsimp only [dats]; try rfl
/-- The body leaves the output window at what the point computes. -/
theorem after0_12 (hO : Ok m) (c : Dev nD) (t : Fin (cfgM m hO).N) : (dats m hO 0 c).after 12 t = (outsAt0 m hO c t.val t.isLt).1 := by dsimp only [dats]; try rfl

/-- The buffer of input window 0 holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The buffer of input window 1 holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The buffer of input window 2 holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- The buffer of input window 3 holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The buffer of input window 4 holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- The buffer of input window 5 holds its block at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- The buffer of input window 6 holds its block at every point. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- The buffer of input window 7 holds its block at every point. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- The buffer of input window 8 holds its block at every point. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
/-- The buffer of input window 9 holds its block at every point. -/
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
/-- The buffer of input window 10 holds its block at every point. -/
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
/-- The buffer of input window 11 holds its block at every point. -/
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) t.isLt from rfl, PhiS_succ, PhiT0_eq]
  have hN : t.val < 32 := lt_of_lt_of_eq t.isLt (show (cfgM m hO).N = 32 from N_0)
  by_cases h0 : t.val % 32 = 0
  · by_cases hz : t.val = 0
    · rw [PhiS_castSucc m hO c t, PhiS_zero m hO c _ _ hz, PhiT0_eq, PhiA0_eq]
      rw [outsAt0_A m hO c t h0]
      unfold caseA out0_A_12 sout0_A_0; dsimp only
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HT0]; · iexact HT0
      iintro ⟨H0, H1, H2, H3, H4, H5, H6, H7, H8, H9, H10, H11, ⟨%e12, H12⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show (cfgM m hO).N = 32 from N_0); omega
  · by_cases hz : t.val = 0
    · exfalso; have hN : t.val < 32 := lt_of_lt_of_eq t.isLt (show (cfgM m hO).N = 32 from N_0); omega
    · rw [PhiS_castSucc m hO c t, PhiS_pos m hO c _ _ hz, PhiT0_eq]
      rw [outsAt0_B m hO c t h0]
      unfold caseB out0_B_12 sout0_B_0; dsimp only
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HT0]; · iexact HT0
      iintro ⟨H0, H1, H2, H3, H4, H5, H6, H7, H8, H9, H10, H11, ⟨%e12, H12⟩, HS0, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; rfl
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 32 := N_0; omega)

/-! ## The run and the frame -/

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ hO (dats m hO) (A_eq m hO) (run_main m ρ hO)

/-- The frame: every execution ends, the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ hO) ((θ_run defs _ _).mono (fun _ h => h.2) (run_main_quiescent m ρ hO))

end Cert.KernelIdeal.Hand

end
-- ==== Proof.KernelIdealTable.lean ====
/- The prefetched table of KernelIdeal: the argsort of the argsort of the cluster ids, so each word is a batch position. -/
module

public import proofs.«01_k».proof.Proof.KernelIdealFrame
public import proofs.«01_k».proof.Proof.Argsort
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The cluster ids, repeated for the two halves of the batch. -/
def cids (c : Dev nD) : IVec S256 32 :=
  concatenate S256 0 [⟨S128, m ((c : Thread nD τ).loc main_arg2)⟩, ⟨S128, m ((c : Thread nD τ).loc main_arg2)⟩] concatenates_S128_S128_S256_d0

/-- The table the region finds: the argsort of the argsort of the cluster ids. -/
theorem V_main_v2 (c : Dev nD) : V m c main_v2 = Argsort.argsort (n := 256) (Argsort.argsort (n := 256) (cids m c)) := by
  unfold V
  simp only [List.flatten_cons, List.flatten_nil, List.append_nil, List.cons_append, List.nil_append]
  after_reads_simp
  rfl

/-- The batch position the table names for batch position `n`. -/
def inv (n : Fin 256) : Fin 256 := Argsort.src (n := 256) (Argsort.argsort (n := 256) (cids m 0)) n

/-- An entry of the prefetched table is the sorted position of a batch entry. -/
theorem tbl_apply (n : Fin 256) : tbl m 0 (ix1 n) = BitVec.ofNat 32 (inv m n).val := by
  have h : tbl m 0 (ix1 n) = V m 0 main_v2 (ix1 n) := rfl
  rw [h, V_main_v2]
  exact Argsort.argsort_apply _ n

/-- The offset of the table's word for mask window `r` at grid point `i`. -/
theorem off_val (i : grid0.Coords) (r : Fin 8) : k0_off1 i (BitVec.ofNat 32 r.val) 0 = 8 * (i 0).val + r.val := by
  have h : ∀ (a : Fin 32) (r : Fin 8),
      (Scalar.indexCast (Scalar.addi (Scalar.muli (BitVec.ofNat 32 a.val) 8#32) (BitVec.ofNat 32 r.val)) : Index).toNat = 8 * a.val + r.val := by
    decide +kernel
  exact h (i 0) r

/-- The batch entries of a grid point lie inside the batch. -/
theorem pos_lt (i : grid0.Coords) (r : Fin 8) : 8 * (i 0).val + r.val < 256 := by
  have h : (i 0).val < 32 := (i 0).isLt
  omega

/-- The batch position that entry `r` of grid point `i`'s block is. -/
abbrev pos (i : grid0.Coords) (r : Fin 8) : Fin 256 := ⟨8 * (i 0).val + r.val, pos_lt i r⟩

/-- The table's word for mask window `r` at grid point `i`. -/
theorem at_eq (i : grid0.Coords) (r : Fin 8) :
    (tbl m).at 0 (Rect.unit (s := S256) (k0_off1 i (BitVec.ofNat 32 r.val)) S1.size (k0_off1_inb i r)) numel1_S1
      = BitVec.ofNat 32 (inv m (pos i r)).val := by
  refine Eq.trans (congrArg (tbl m 0) ?_) (tbl_apply m (pos i r))
  funext a
  match a with
  | ⟨0, _⟩ => exact Fin.ext ((congrArg (· + 1 * 0) (off_val i r)).trans rfl)

/-- The table word a grid point reads for its `r`-th mask window, as a number. -/
theorem at_toNat (i : grid0.Coords) (r : Fin 8) :
    ((tbl m).at 0 (Rect.unit (s := S256) (k0_off1 i (BitVec.ofNat 32 r.val)) S1.size (k0_off1_inb i r)) numel1_S1 : BitVec 32).toNat
      = (inv m (pos i r)).val := by
  rw [at_eq]
  have := (inv m (pos i r)).isLt
  exact (BitVec.toNat_ofNat _ _).trans (Nat.mod_eq_of_lt (by omega))

/-- A mask block whose batch index is one of the 256 lies inside the masks. -/
theorem inb_of (n : Nat) (hn : n < 256) (a : Fin 4) : (![n, 0, 0, 0] a + 1) * S1x1x128x128.size a ≤ S256x1x128x128.size a := by
  match a with
  | ⟨0, _⟩ => show (n + 1) * 1 ≤ 256; omega
  | ⟨1, _⟩ => exact Nat.le_of_eq rfl
  | ⟨2, _⟩ => exact Nat.le_of_eq rfl
  | ⟨3, _⟩ => exact Nat.le_of_eq rfl

/-- That number is a batch entry. -/
theorem at_lt (i : grid0.Coords) (r : Fin 8) :
    ((tbl m).at 0 (Rect.unit (s := S256) (k0_off1 i (BitVec.ofNat 32 r.val)) S1.size (k0_off1_inb i r)) numel1_S1 : BitVec 32).toNat < 256 := by
  rw [at_toNat]; exact (inv m (pos i r)).isLt

/-- The pipeline's side condition of the table: every mask block it names lies inside the masks. -/
theorem ok : Ok m :=
  ⟨fun i => ⟨inb_of _ (at_lt m i 0), .inl rfl⟩, fun i => ⟨inb_of _ (at_lt m i 1), .inl rfl⟩,
    fun i => ⟨inb_of _ (at_lt m i 2), .inl rfl⟩, fun i => ⟨inb_of _ (at_lt m i 3), .inl rfl⟩,
    fun i => ⟨inb_of _ (at_lt m i 4), .inl rfl⟩, fun i => ⟨inb_of _ (at_lt m i 5), .inl rfl⟩,
    fun i => ⟨inb_of _ (at_lt m i 6), .inl rfl⟩, fun i => ⟨inb_of _ (at_lt m i 7), .inl rfl⟩⟩

end Cert.KernelIdeal.Hand

end
-- ==== Proof.KernelIdealPoint.lean ====
module

public import proofs.«01_k».proof.Proof.KernelIdealFrame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Where the windows and stores lie -/

/-- The queries of one head of one batch entry lie inside the block's queries. -/
theorem slices_q (b : Fin 8) (h : Fin 16) : S1024x1024.Slices ![128 * b.val, 64 * h.val] S128x64 := by
  revert b h; decide

/-- The keys of one head of one batch entry lie inside the block's transposed keys. -/
theorem slices_k (b : Fin 8) (h : Fin 16) : S1024x1024.Slices ![64 * h.val, 128 * b.val] S64x128 := by
  revert b h; decide

/-- The values of one head lie inside the joint projection, behind the queries. -/
theorem slices_v (h : Fin 16) : S1024x2048.Slices ![0, 1024 + 64 * h.val] S1024x64 := by
  revert h; decide

/-- The rows of one batch entry lie inside each half of the finished rows. -/
theorem slices_row (b : Fin 4) : S512x1024.Slices ![128 * b.val, 0] S128x1024 := by
  revert b; decide

/-- The context of one head of one batch entry lies inside the context buffer. -/
theorem inb_ctx (b : Fin 8) (h : Fin 16) (a : Fin 2) :
    (![128 * b.val, 64 * h.val] : Fin 2 → ℕ) a + S128x64.size a ≤ S1024x1024.size a := by
  revert b h a; decide

/-- The values and ones of one head of one batch entry lie inside the value buffer. -/
theorem inb_v2 (b : Fin 8) (h : Fin 16) (a : Fin 2) :
    (![128 * b.val, 128 * h.val] : Fin 2 → ℕ) a + S128x128.size a ≤ S1024x2048.size a := by
  revert b h a; decide

/-- The columns that hold one head's values lie inside the value buffer. -/
theorem inb_col (h : Fin 16) (a : Fin 2) :
    (![0, 128 * h.val] : Fin 2 → ℕ) a + S1024x64.size a ≤ S1024x2048.size a := by
  revert h a; decide

/-- One batch entry lies inside the output block. -/
theorem inb_out (b : Fin 8) (a : Fin 3) :
    (![b.val, 0, 0] : Fin 3 → ℕ) a + S1x128x1024.size a ≤ S8x128x1024.size a := by
  revert b a; decide

/-! ## What is stored -/

/-- A whole buffer that holds `x`, read from its first element on. -/
def rd {s : Shape} {e : EltTy} (a : Memref sig .tc .vmem s e) (h : a.IsWhole) (x : Vec F s e) (off : Fin s.rank → ℕ)
    (inb : ∀ k, off k + s.size k ≤ s.size k) : Vec F s e :=
  View.readAt (Elt F) a.view (Rect.unit off s.size inb).toLoadRect (h.unread x)

/-- Reading a whole buffer that holds `x` gives `x`. -/
theorem rd_eq {s : Shape} {e : EltTy} (a : Memref sig .tc .vmem s e) (h : a.IsWhole) (x : Vec F s e) (off : Fin s.rank → ℕ)
    (inb : ∀ k, off k + s.size k ≤ s.size k) : rd a h x off inb = x :=
  (View.readAt_full a.view (h.unread x) inb).trans (h.read_unread x)

/-- The stores of the first `n` heads' values (`n ≤ 16`), last first, over the stores `L`. -/
def v2Pieces (qkv : FVec F S1024x2048 .bf16) (L : List (View.Piece (Elt F) S1024x2048 .bf16)) :
    ℕ → List (View.Piece (Elt F) S1024x2048 .bf16)
  | 0 => L
  | n + 1 =>
    ⟨Rect.unit ![0, 128 * (Fin.ofNat 16 n).val] S1024x64.size (inb_col _),
      shapeCast S1024x64 (extractStridedSlice S1024x64 ![0, 1024 + 64 * (Fin.ofNat 16 n).val] qkv (slices_v _))
        shapeCasts_S1024x64_S1024x64⟩ :: v2Pieces qkv L n

/-- The store of ones over the whole value buffer, which the first point makes. -/
def onesPiece : List (View.Piece (Elt F) S1024x2048 .bf16) :=
  [⟨Rect.unit ![0, 0] S1024x2048.size inb_S1024x2048_S1024x2048_0_0, k0_pay3⟩]

/-- The exponentiated scores of head `h` of batch entry `b` of the block: the queries' rows against the keys' columns,
    plus the mask `M`. -/
def expScore (q kt : FVec F S1024x1024 .bf16) (M : FVec F S128x128 .f32) (b : Fin 8) (h : Fin 16) :
    FVec F S128x128 .bf16 :=
  truncf .bf16 (exp (addf (matmul dot_S128x64_S64x128_S128x128_1_0_0_1_n_n none
    (extractStridedSlice S128x64 ![128 * b.val, 64 * h.val] q (slices_q b h))
    (extractStridedSlice S64x128 ![64 * h.val, 128 * b.val] kt (slices_k b h))
    (constant S128x128 .f32 0x00000000#32)) M)) bitsLt_bf16_f32

/-- The stores of the first `n` heads (`n ≤ 128`, sixteen per batch entry), last first, into the context buffer. -/
def ctxPieces (q kt : FVec F S1024x1024 .bf16) (M : Fin 8 → FVec F S128x128 .f32)
    (W : Fin 8 → Fin 16 → Vec F S128x128 .bf16) : ℕ → List (View.Piece (Elt F) S1024x1024 .bf16)
  | 0 => []
  | n + 1 =>
    ⟨Rect.unit ![128 * (Fin.ofNat 8 (n / 16)).val, 64 * (Fin.ofNat 16 n).val] S128x64.size (inb_ctx _ _),
      k0_pay43 (expScore q kt (M (Fin.ofNat 8 (n / 16))) (Fin.ofNat 8 (n / 16)) (Fin.ofNat 16 n))
        (W (Fin.ofNat 8 (n / 16)) (Fin.ofNat 16 n))⟩ :: ctxPieces q kt M W n

/-- The first 512 finished rows, from the block's rows `X`, the weights and the value buffer's windows `W`. -/
def rowsLo (v : View sig .tc .vmem S1024x1024 .bf16) (X : Vec F S8x128x1024 .f32) (WA : Vec F S2048x1024 .bf16) (WK WO : Vec F S1024x1024 .bf16)
    (M : Fin 8 → Vec F S1x1x128x128 .f32) (W : Fin 8 → Fin 16 → Vec F S128x128 .bf16) : FVec F S512x1024 .f32 :=
  k0_pay191 (k0_pay4 X) (v.readCov (ctxPieces (k0_pay7 X WA) (k0_pay8 X WK)
    (fun b => shapeCast S128x128 (M b) shapeCasts_S1x1x128x128_S128x128) W 64)
    (Rect.unit (s := S1024x1024) ![0, 0] S512x1024.size inb_S1024x1024_S512x1024_0_0).toLoadRect) WO

/-- The last 512 finished rows, from the block's rows `X`, the weights and the value buffer's windows `W`. -/
def rowsHi (v : View sig .tc .vmem S1024x1024 .bf16) (X : Vec F S8x128x1024 .f32) (WA : Vec F S2048x1024 .bf16) (WK WO : Vec F S1024x1024 .bf16)
    (M : Fin 8 → Vec F S1x1x128x128 .f32) (W : Fin 8 → Fin 16 → Vec F S128x128 .bf16) : FVec F S512x1024 .f32 :=
  k0_pay339 (k0_pay4 X) (v.readCov (ctxPieces (k0_pay7 X WA) (k0_pay8 X WK)
    (fun b => shapeCast S128x128 (M b) shapeCasts_S1x1x128x128_S128x128) W 128)
    (Rect.unit (s := S1024x1024) ![512, 0] S512x1024.size inb_S1024x1024_S512x1024_512_0).toLoadRect) WO

/-- The stores of the first `n` batch entries (`n ≤ 8`) of the output block, last first: four from the rows `lo` and
    four from the rows `hi`. -/
def outPieces (lo hi : FVec F S512x1024 .f32) : ℕ → List (View.Piece (Elt F) S8x128x1024 .f32)
  | 0 => []
  | n + 1 =>
    ⟨Rect.unit ![(Fin.ofNat 8 n).val, 0, 0] S1x128x1024.size (inb_out _),
      shapeCast S1x128x1024 (extractStridedSlice S128x1024 ![128 * (Fin.ofNat 4 n).val, 0] (if n < 4 then lo else hi)
        (slices_row _)) shapeCasts_S128x1024_S1x128x1024⟩ :: outPieces lo hi n

/-- The stores the first point makes to the value buffer. -/
theorem v2_A (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).2.1 = v2Pieces (k0_pay6 (rd arg2 harg2 x0 ![0, 0, 0] inb_S8x128x1024_S8x128x1024_0_0_0) (rd arg11 harg11 x9 ![0, 0] inb_S2048x1024_S2048x1024_0_0)) onesPiece 16 := by
  unfold kernelRun0_A; dsimp only; sl_kernel_rfl

/-- The stores a later point makes to the value buffer. -/
theorem v2_B (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : ¬cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (xs0 : Vec F S1024x2048 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).2.1 = v2Pieces (k0_pay6 (rd arg2 harg2 x0 ![0, 0, 0] inb_S8x128x1024_S8x128x1024_0_0_0) (rd arg11 harg11 x9 ![0, 0] inb_S2048x1024_S2048x1024_0_0)) [] 16 := by
  unfold kernelRun0_B; dsimp only; sl_kernel_rfl

/-- The stores the first point makes to the output block. -/
theorem out_A (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0).1 = outPieces
      (rowsLo arg16.view (rd arg2 harg2 x0 ![0, 0, 0] inb_S8x128x1024_S8x128x1024_0_0_0) (rd arg11 harg11 x9 ![0, 0] inb_S2048x1024_S2048x1024_0_0) (rd arg12 harg12 x10 ![0, 0] inb_S1024x1024_S1024x1024_0_0) (rd arg13 harg13 x11 ![0, 0] inb_S1024x1024_S1024x1024_0_0)
      ![rd arg3 harg3 x1 ![0, 0, 0, 0] inb_S1x1x128x128_S1x1x128x128_0_0_0_0, rd arg4 harg4 x2 ![0, 0, 0, 0] inb_S1x1x128x128_S1x1x128x128_0_0_0_0, rd arg5 harg5 x3 ![0, 0, 0, 0] inb_S1x1x128x128_S1x1x128x128_0_0_0_0, rd arg6 harg6 x4 ![0, 0, 0, 0] inb_S1x1x128x128_S1x1x128x128_0_0_0_0, rd arg7 harg7 x5 ![0, 0, 0, 0] inb_S1x1x128x128_S1x1x128x128_0_0_0_0, rd arg8 harg8 x6 ![0, 0, 0, 0] inb_S1x1x128x128_S1x1x128x128_0_0_0_0, rd arg9 harg9 x7 ![0, 0, 0, 0] inb_S1x1x128x128_S1x1x128x128_0_0_0_0, rd arg10 harg10 x8 ![0, 0, 0, 0] inb_S1x1x128x128_S1x1x128x128_0_0_0_0]
      (fun b h => arg15.view.readCov (v2Pieces (k0_pay6 (rd arg2 harg2 x0 ![0, 0, 0] inb_S8x128x1024_S8x128x1024_0_0_0) (rd arg11 harg11 x9 ![0, 0] inb_S2048x1024_S2048x1024_0_0)) onesPiece 16) (Rect.unit (s := S1024x2048) ![128 * b.val, 128 * h.val] S128x128.size (inb_v2 b h)).toLoadRect))
      (rowsHi arg16.view (rd arg2 harg2 x0 ![0, 0, 0] inb_S8x128x1024_S8x128x1024_0_0_0) (rd arg11 harg11 x9 ![0, 0] inb_S2048x1024_S2048x1024_0_0) (rd arg12 harg12 x10 ![0, 0] inb_S1024x1024_S1024x1024_0_0) (rd arg13 harg13 x11 ![0, 0] inb_S1024x1024_S1024x1024_0_0)
      ![rd arg3 harg3 x1 ![0, 0, 0, 0] inb_S1x1x128x128_S1x1x128x128_0_0_0_0, rd arg4 harg4 x2 ![0, 0, 0, 0] inb_S1x1x128x128_S1x1x128x128_0_0_0_0, rd arg5 harg5 x3 ![0, 0, 0, 0] inb_S1x1x128x128_S1x1x128x128_0_0_0_0, rd arg6 harg6 x4 ![0, 0, 0, 0] inb_S1x1x128x128_S1x1x128x128_0_0_0_0, rd arg7 harg7 x5 ![0, 0, 0, 0] inb_S1x1x128x128_S1x1x128x128_0_0_0_0, rd arg8 harg8 x6 ![0, 0, 0, 0] inb_S1x1x128x128_S1x1x128x128_0_0_0_0, rd arg9 harg9 x7 ![0, 0, 0, 0] inb_S1x1x128x128_S1x1x128x128_0_0_0_0, rd arg10 harg10 x8 ![0, 0, 0, 0] inb_S1x1x128x128_S1x1x128x128_0_0_0_0]
      (fun b h => arg15.view.readCov (v2Pieces (k0_pay6 (rd arg2 harg2 x0 ![0, 0, 0] inb_S8x128x1024_S8x128x1024_0_0_0) (rd arg11 harg11 x9 ![0, 0] inb_S2048x1024_S2048x1024_0_0)) onesPiece 16) (Rect.unit (s := S1024x2048) ![128 * b.val, 128 * h.val] S128x128.size (inb_v2 b h)).toLoadRect)) 8 := by
  unfold kernelRun0_A; dsimp only; sl_kernel_rfl

/-- The stores a later point makes to the output block. -/
theorem out_B (c : Dev nD) (i : grid0.Coords) (arg2 : Memref sig .tc .vmem S8x128x1024 .f32) (harg2 : arg2.IsWhole) (arg3 : Memref sig .tc .vmem S1x1x128x128 .f32) (harg3 : arg3.IsWhole) (arg4 : Memref sig .tc .vmem S1x1x128x128 .f32) (harg4 : arg4.IsWhole) (arg5 : Memref sig .tc .vmem S1x1x128x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S2048x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S8x128x1024 .f32) (harg14 : arg14.IsWhole) (arg15 : Memref sig .tc .vmem S1024x2048 .bf16) (harg15 : arg15.IsWhole) (arg16 : Memref sig .tc .vmem S1024x1024 .bf16) (harg16 : arg16.IsWhole) (hc0 : ¬cond0_0 i)
    (x0 : Vec F S8x128x1024 .f32) (x1 : Vec F S1x1x128x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S2048x1024 .bf16) (x10 : Vec F S1024x1024 .bf16) (x11 : Vec F S1024x1024 .bf16) (xt0 : TbBuf0 (F := F) c tbM0_0) (xs0 : Vec F S1024x2048 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0).1 = outPieces
      (rowsLo arg16.view (rd arg2 harg2 x0 ![0, 0, 0] inb_S8x128x1024_S8x128x1024_0_0_0) (rd arg11 harg11 x9 ![0, 0] inb_S2048x1024_S2048x1024_0_0) (rd arg12 harg12 x10 ![0, 0] inb_S1024x1024_S1024x1024_0_0) (rd arg13 harg13 x11 ![0, 0] inb_S1024x1024_S1024x1024_0_0)
      ![rd arg3 harg3 x1 ![0, 0, 0, 0] inb_S1x1x128x128_S1x1x128x128_0_0_0_0, rd arg4 harg4 x2 ![0, 0, 0, 0] inb_S1x1x128x128_S1x1x128x128_0_0_0_0, rd arg5 harg5 x3 ![0, 0, 0, 0] inb_S1x1x128x128_S1x1x128x128_0_0_0_0, rd arg6 harg6 x4 ![0, 0, 0, 0] inb_S1x1x128x128_S1x1x128x128_0_0_0_0, rd arg7 harg7 x5 ![0, 0, 0, 0] inb_S1x1x128x128_S1x1x128x128_0_0_0_0, rd arg8 harg8 x6 ![0, 0, 0, 0] inb_S1x1x128x128_S1x1x128x128_0_0_0_0, rd arg9 harg9 x7 ![0, 0, 0, 0] inb_S1x1x128x128_S1x1x128x128_0_0_0_0, rd arg10 harg10 x8 ![0, 0, 0, 0] inb_S1x1x128x128_S1x1x128x128_0_0_0_0]
      (fun b h => View.readAt (Elt F) arg15.view (Rect.unit (s := S1024x2048) ![128 * b.val, 128 * h.val] S128x128.size (inb_v2 b h)).toLoadRect (arg15.view.writes (Elt F) (harg15.unread xs0) (v2Pieces (k0_pay6 (rd arg2 harg2 x0 ![0, 0, 0] inb_S8x128x1024_S8x128x1024_0_0_0) (rd arg11 harg11 x9 ![0, 0] inb_S2048x1024_S2048x1024_0_0)) [] 16))))
      (rowsHi arg16.view (rd arg2 harg2 x0 ![0, 0, 0] inb_S8x128x1024_S8x128x1024_0_0_0) (rd arg11 harg11 x9 ![0, 0] inb_S2048x1024_S2048x1024_0_0) (rd arg12 harg12 x10 ![0, 0] inb_S1024x1024_S1024x1024_0_0) (rd arg13 harg13 x11 ![0, 0] inb_S1024x1024_S1024x1024_0_0)
      ![rd arg3 harg3 x1 ![0, 0, 0, 0] inb_S1x1x128x128_S1x1x128x128_0_0_0_0, rd arg4 harg4 x2 ![0, 0, 0, 0] inb_S1x1x128x128_S1x1x128x128_0_0_0_0, rd arg5 harg5 x3 ![0, 0, 0, 0] inb_S1x1x128x128_S1x1x128x128_0_0_0_0, rd arg6 harg6 x4 ![0, 0, 0, 0] inb_S1x1x128x128_S1x1x128x128_0_0_0_0, rd arg7 harg7 x5 ![0, 0, 0, 0] inb_S1x1x128x128_S1x1x128x128_0_0_0_0, rd arg8 harg8 x6 ![0, 0, 0, 0] inb_S1x1x128x128_S1x1x128x128_0_0_0_0, rd arg9 harg9 x7 ![0, 0, 0, 0] inb_S1x1x128x128_S1x1x128x128_0_0_0_0, rd arg10 harg10 x8 ![0, 0, 0, 0] inb_S1x1x128x128_S1x1x128x128_0_0_0_0]
      (fun b h => View.readAt (Elt F) arg15.view (Rect.unit (s := S1024x2048) ![128 * b.val, 128 * h.val] S128x128.size (inb_v2 b h)).toLoadRect (arg15.view.writes (Elt F) (harg15.unread xs0) (v2Pieces (k0_pay6 (rd arg2 harg2 x0 ![0, 0, 0] inb_S8x128x1024_S8x128x1024_0_0_0) (rd arg11 harg11 x9 ![0, 0] inb_S2048x1024_S2048x1024_0_0)) [] 16)))) 8 := by
  unfold kernelRun0_B; dsimp only; sl_kernel_rfl

end Cert.KernelIdeal.Hand
-- ==== Proof.Layer.lean ====
module

public import Idealize.ShloMosaic.PureOps.Ideal

@[expose] public section

/-!
  One batch entry of the attention layer as a function on extended reals, in the order in which the kernel computes it.
-/

noncomputable section

namespace Cert.Layer

open Idealize.ShloMosaic
open scoped BigOperators

/-- Column `64 * h + k`, the `k`-th column of head `h`. -/
def col (h : Fin 16) (k : Fin 64) : Fin 1024 := ⟨64 * h.val + k.val, by omega⟩

/-- The head a column belongs to. -/
def head (c : Fin 1024) : Fin 16 := ⟨c.val / 64, by omega⟩

/-- A column's position within its head. -/
def pos (c : Fin 1024) : Fin 64 := ⟨c.val % 64, by omega⟩

/-- A column is the one at its position in its head. -/
theorem col_head_pos (c : Fin 1024) : col (head c) (pos c) = c := Fin.ext (by simp [col, head, pos]; omega)

/-- The rows `x` times the transposed weights `w`. -/
def proj {n : ℕ} (x : Fin n → Fin 1024 → EReal) (w : Fin 1024 → Fin 1024 → EReal) (i : Fin n) (c : Fin 1024) : EReal :=
  ∑ d : Fin 1024, x i d * w c d

section Attention

variable (x : Fin 128 → Fin 1024 → EReal) (mask : Fin 128 → Fin 128 → EReal) (wq wk wv wo : Fin 1024 → Fin 1024 → EReal)

/-- The exponential of head `h`'s score of row `i` against row `j`, the scaling lying in the weights `wq`. -/
def expo (h : Fin 16) (i j : Fin 128) : EReal :=
  Ideal.exp (∑ u : Fin 64, proj x wq i (col h u) * proj x wk j (col h u) + mask i j)

/-- The attention output of row `i` at column `u` of head `h`: one quotient of two sums. -/
def context (h : Fin 16) (i : Fin 128) (u : Fin 64) : EReal :=
  Ideal.div (∑ j : Fin 128, expo x mask wq wk h i j * proj x wv j (col h u)) (∑ j : Fin 128, expo x mask wq wk h i j)

/-- The output projection plus the residual. -/
def hidden (i : Fin 128) (e : Fin 1024) : EReal :=
  ∑ c : Fin 1024, context x mask wq wk wv (head c) i (pos c) * wo e c + x i e

end Attention

/-- A row normalised by its mean and by its mean square, `n` standing for one part in 1024 and `eps` for what is added to
    the variance. -/
def normed (n eps : EReal) (y : Fin 1024 → EReal) (e : Fin 1024) : EReal :=
  (y e - (∑ d : Fin 1024, y d) * n)
    * Ideal.rsqrt (max ((∑ d : Fin 1024, y d * y d) * n - ((∑ d : Fin 1024, y d) * n) * ((∑ d : Fin 1024, y d) * n)) 0 + eps)

/-- The layer's rows depend on its inputs only through their elements. -/
theorem hidden_congr {x x' : Fin 128 → Fin 1024 → EReal} {mask mask' : Fin 128 → Fin 128 → EReal}
    {wq wq' wk wk' wv wv' wo wo' : Fin 1024 → Fin 1024 → EReal} (hx : ∀ i d, x i d = x' i d)
    (hm : ∀ i j, mask i j = mask' i j) (hq : ∀ k d, wq k d = wq' k d) (hk : ∀ k d, wk k d = wk' k d)
    (hv : ∀ k d, wv k d = wv' k d) (ho : ∀ k d, wo k d = wo' k d) :
    hidden x mask wq wk wv wo = hidden x' mask' wq' wk' wv' wo' := by
  obtain rfl : x = x' := funext fun i => funext fun d => hx i d
  obtain rfl : mask = mask' := funext fun i => funext fun j => hm i j
  obtain rfl : wq = wq' := funext fun k => funext fun d => hq k d
  obtain rfl : wk = wk' := funext fun k => funext fun d => hk k d
  obtain rfl : wv = wv' := funext fun k => funext fun d => hv k d
  obtain rfl : wo = wo' := funext fun k => funext fun d => ho k d
  rfl

end Cert.Layer
-- ==== Proof.KernelIdealRead.lean ====
module

public import proofs.«01_k».proof.Proof.KernelIdealPoint
public import proofs.«01_k».proof.Proof.Layer
public import Idealize.ShloMosaic.Lib.WritesUnit
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Cert.Layer (col head pos)

variable {F : FTy → Type} [FloatOps F]

/-- Row `128 * b + i`, the `i`-th row of batch entry `b` of a block. -/
def row (b : Fin 8) (i : Fin 128) : Fin 1024 := ⟨128 * b.val + i.val, by omega⟩

/-- The `k`-th column of head `h`'s values in the value buffer. -/
def colVal (h : Fin 16) (k : Fin 64) : Fin 2048 := ⟨128 * h.val + k.val, by omega⟩

/-- The `k`-th column of head `h`'s ones in the value buffer. -/
def colOne (h : Fin 16) (k : Fin 64) : Fin 2048 := ⟨128 * h.val + 64 + k.val, by omega⟩

/-- The `k`-th column of head `h`'s values in the joint projection. -/
def colProj (h : Fin 16) (k : Fin 64) : Fin 2048 := ⟨1024 + 64 * h.val + k.val, by omega⟩

/-- After the stores of `n` heads' values, a column of one of these heads holds the joint projection's column. -/
theorem v2_val {κ : Kind} {sp : Space} (v : View sig κ sp S1024x2048 .bf16) (f : v.ty.Contents (Elt F))
    (qkv : FVec F S1024x2048 .bf16) (L : List (View.Piece (Elt F) S1024x2048 .bf16)) (r : Fin 1024) (h : Fin 16)
    (k : Fin 64) (n : ℕ) (hn : n ≤ 16) (hh : h.val < n) :
    v.read (Elt F) (v.writes (Elt F) f (v2Pieces qkv L n)) (ix2 r (colVal h k)) = qkv (ix2 r (colProj h k)) := by
  induction n with
  | zero => omega
  | succ n ih =>
    have e : (Fin.ofNat 16 n).val = n := Nat.mod_eq_of_lt (by omega)
    rw [v2Pieces]
    by_cases hx : h.val = n
    · refine (View.read_writes_cons_unit_of_mem v f _ _ _ _ (ix2 r k) rfl (Fin.forall_fin_two.mpr ⟨?_, ?_⟩)).trans ?_
      · exact (Nat.zero_add _).symm
      · show 128 * h.val + k.val = 128 * (Fin.ofNat 16 n).val + k.val
        omega
      · rw [shapeCast_self]
        refine congrArg qkv (Shape.idx_ext₂ (Nat.zero_add _) ?_)
        show 1024 + 64 * (Fin.ofNat 16 n).val + k.val = 1024 + 64 * h.val + k.val
        omega
    · rw [View.read_writes_cons_unit_of_not_mem v f _ _ _ _ rfl 1 (by
        show 128 * h.val + k.val < 128 * (Fin.ofNat 16 n).val ∨ 128 * (Fin.ofNat 16 n).val + 64 ≤ 128 * h.val + k.val
        omega)]
      exact ih (by omega) (by omega)

/-- After the stores of `n` heads' values, a column of ones holds what it held before. -/
theorem v2_one {κ : Kind} {sp : Space} (v : View sig κ sp S1024x2048 .bf16) (f : v.ty.Contents (Elt F))
    (qkv : FVec F S1024x2048 .bf16) (L : List (View.Piece (Elt F) S1024x2048 .bf16)) (r : Fin 1024) (h : Fin 16)
    (k : Fin 64) (n : ℕ) (hn : n ≤ 16) :
    v.read (Elt F) (v.writes (Elt F) f (v2Pieces qkv L n)) (ix2 r (colOne h k))
      = v.read (Elt F) (v.writes (Elt F) f L) (ix2 r (colOne h k)) := by
  induction n with
  | zero => rfl
  | succ n ih =>
    have e : (Fin.ofNat 16 n).val = n := Nat.mod_eq_of_lt (by omega)
    rw [v2Pieces, View.read_writes_cons_unit_of_not_mem v f _ _ _ _ rfl 1 (by
        show 128 * h.val + 64 + k.val < 128 * (Fin.ofNat 16 n).val ∨ 128 * (Fin.ofNat 16 n).val + 64 ≤ 128 * h.val + 64 + k.val
        omega)]
    exact ih (by omega)

/-- The store of ones leaves a one everywhere. -/
theorem onesPiece_read {κ : Kind} {sp : Space} (v : View sig κ sp S1024x2048 .bf16) (f : v.ty.Contents (Elt F))
    (y : S1024x2048.Idx) :
    v.read (Elt F) (v.writes (Elt F) f onesPiece) y = Scalar.ofBits .bf16 0x3F80#16 := by
  refine (View.read_writes_cons_unit_of_mem v f _ _ _ _ y rfl
    (Fin.forall_fin_two.mpr ⟨(Nat.zero_add _).symm, (Nat.zero_add _).symm⟩)).trans ?_
  rw [k0_pay3, shapeCast_self]
  rfl

/-- After the stores of `n` heads, the context of one of these heads is that head's output. -/
theorem ctx_read {κ : Kind} {sp : Space} (v : View sig κ sp S1024x1024 .bf16) (f : v.ty.Contents (Elt F))
    (q kt : FVec F S1024x1024 .bf16) (M : Fin 8 → FVec F S128x128 .f32) (W : Fin 8 → Fin 16 → Vec F S128x128 .bf16)
    (b : Fin 8) (i : Fin 128) (h : Fin 16) (k : Fin 64) (n : ℕ) (hn : n ≤ 128) (hh : 16 * b.val + h.val < n) :
    v.read (Elt F) (v.writes (Elt F) f (ctxPieces q kt M W n)) (ix2 (row b i) (col h k))
      = k0_pay43 (expScore q kt (M b) b h) (W b h) (ix2 i k) := by
  induction n with
  | zero => omega
  | succ n ih =>
    have eb : (Fin.ofNat 8 (n / 16)).val = n / 16 := Nat.mod_eq_of_lt (by omega)
    have eh : (Fin.ofNat 16 n).val = n % 16 := rfl
    rw [ctxPieces]
    by_cases hx : 16 * b.val + h.val = n
    · have hb : Fin.ofNat 8 (n / 16) = b := Fin.ext (by omega)
      have hh : Fin.ofNat 16 n = h := Fin.ext (by omega)
      refine (View.read_writes_cons_unit_of_mem v f _ _ _ _ (ix2 i k) rfl (Fin.forall_fin_two.mpr ⟨?_, ?_⟩)).trans ?_
      · show 128 * b.val + i.val = 128 * (Fin.ofNat 8 (n / 16)).val + i.val
        omega
      · show 64 * h.val + k.val = 64 * (Fin.ofNat 16 n).val + k.val
        omega
      · rw [hb, hh]
    · by_cases hb : b.val = n / 16
      · rw [View.read_writes_cons_unit_of_not_mem v f _ _ _ _ rfl 1 (by
          show 64 * h.val + k.val < 64 * (Fin.ofNat 16 n).val ∨ 64 * (Fin.ofNat 16 n).val + 64 ≤ 64 * h.val + k.val
          omega)]
        exact ih (by omega) (by omega)
      · rw [View.read_writes_cons_unit_of_not_mem v f _ _ _ _ rfl 0 (by
          show 128 * b.val + i.val < 128 * (Fin.ofNat 8 (n / 16)).val ∨ 128 * (Fin.ofNat 8 (n / 16)).val + 128 ≤ 128 * b.val + i.val
          omega)]
        exact ih (by omega) (by omega)

/-- After the stores of `n` batch entries, one of these entries holds its finished rows. -/
theorem out_read {κ : Kind} {sp : Space} (v : View sig κ sp S8x128x1024 .f32) (f : v.ty.Contents (Elt F))
    (lo hi : FVec F S512x1024 .f32) (b : Fin 8) (i : Fin 128) (d : Fin 1024) (n : ℕ) (hn : n ≤ 8) (hh : b.val < n) :
    v.read (Elt F) (v.writes (Elt F) f (outPieces lo hi n)) (ix3 b i d)
      = (if b.val < 4 then lo else hi) (ix2 (⟨128 * (b.val % 4) + i.val, by omega⟩ : Fin 512) d) := by
  induction n with
  | zero => omega
  | succ n ih =>
    have e : (Fin.ofNat 8 n).val = n := Nat.mod_eq_of_lt (by omega)
    rw [outPieces]
    by_cases hx : b.val = n
    · subst hx
      refine (View.read_writes_cons_unit_of_mem v f _ _ _ _ (ix3 (0 : Fin 1) i d) rfl fun a => ?_).trans ?_
      · match a with
        | ⟨0, _⟩ => show b.val = (Fin.ofNat 8 b.val).val + 0; omega
        | ⟨1, _⟩ => exact (Nat.zero_add _).symm
        | ⟨2, _⟩ => exact (Nat.zero_add _).symm
      · refine (shapeCast_addUnit_apply ![128, 1024] _ shapeCasts_S128x1024_S1x128x1024 (ix3 (0 : Fin 1) i d)).trans ?_
        exact congrArg (if b.val < 4 then lo else hi) (Shape.idx_ext₂ rfl (Nat.zero_add _))
    · rw [View.read_writes_cons_unit_of_not_mem v f _ _ _ _ rfl 0 (by
          show b.val < (Fin.ofNat 8 n).val ∨ (Fin.ofNat 8 n).val + 1 ≤ b.val
          omega)]
      exact ih (by omega) (by omega)

end Cert.KernelIdeal.Hand
-- ==== Proof.KernelIdealBlock.lean ====
module

public import proofs.«01_k».proof.Proof.KernelIdealRead
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Cert.Layer (col head pos proj)
open scoped BigOperators

/-- The word the kernel multiplies by for a mean over 1024 elements. -/
abbrev nWord : EReal := Ideal.ofBits .f32 0x3A800000#32

/-- The word the kernel adds to the variance. -/
abbrev epsWord : EReal := Ideal.ofBits .f32 0x2B8CBCCC#32

/-- The first half of the output rows at an index: the normalised row of the projected context plus the residual. -/
theorem pay191_apply (v4 : FVec Ideal S1024x1024 .f32) (cx : Vec Ideal S512x1024 .bf16) (wo : Vec Ideal S1024x1024 .bf16)
    (r : Fin 512) (e : Fin 1024) :
    k0_pay191 v4 cx wo (ix2 r e) = Layer.normed nWord epsWord (fun e' =>
      ∑ c : Fin 1024, cx (ix2 r c) * wo (ix2 e' c) + v4 (ix2 (⟨r.val, by omega⟩ : Fin 1024) e')) e := by
  pointwise [k0_pay191, Layer.normed]

/-- The second half of the output rows at an index: the same, 512 rows further on. -/
theorem pay339_apply (v4 : FVec Ideal S1024x1024 .f32) (cx : Vec Ideal S512x1024 .bf16) (wo : Vec Ideal S1024x1024 .bf16)
    (r : Fin 512) (e : Fin 1024) :
    k0_pay339 v4 cx wo (ix2 r e) = Layer.normed nWord epsWord (fun e' =>
      ∑ c : Fin 1024, cx (ix2 r c) * wo (ix2 e' c) + v4 (ix2 (⟨512 + r.val, by omega⟩ : Fin 1024) e')) e := by
  pointwise [k0_pay339, Layer.normed]

/-- One head's context at an index: the weighted sum of the values over the sum of the weights, the ones column giving the latter. -/
theorem pay43_apply (e : FVec Ideal S128x128 .bf16) (w : Vec Ideal S128x128 .bf16) (i : Fin 128) (u : Fin 64) :
    k0_pay43 e w (ix2 i u) = Ideal.div (∑ j : Fin 128, e (ix2 i j) * w (ix2 j (⟨u.val, by omega⟩ : Fin 128)))
      (∑ j : Fin 128, e (ix2 i j) * w (ix2 j (⟨64 + u.val, by omega⟩ : Fin 128))) := by
  pointwise [k0_pay43]

/-- One weight at an index: the exponential of the score plus the mask. -/
theorem expScore_apply (q kt : FVec Ideal S1024x1024 .bf16) (M : FVec Ideal S128x128 .f32) (b : Fin 8) (h : Fin 16)
    (i j : Fin 128) :
    expScore q kt M b h (ix2 i j)
      = Ideal.exp (∑ u : Fin 64, q (ix2 (row b i) (col h u)) * kt (ix2 (col h u) (row b j)) + M (ix2 i j)) := by
  pointwise [expScore]
  rfl

/-- The block of eight entries as rows: row `128·b + i` is row `i` of entry `b`. -/
theorem pay4_apply (X : Vec Ideal S8x128x1024 .f32) (b : Fin 8) (i : Fin 128) (d : Fin 1024) :
    k0_pay4 X (ix2 (row b i) d) = X (ix3 b i d) := by
  refine shapeCast_apply _ _ _ _ ?_
  rw [Shape.rowMajor_val_three, Shape.rowMajor_val_two]
  show (b.val * 128 + i.val) * 1024 + d.val = (128 * b.val + i.val) * 1024 + d.val
  omega

/-- The joint query and value projection at an index. -/
theorem pay6_apply (X : Vec Ideal S8x128x1024 .f32) (WA : Vec Ideal S2048x1024 .bf16) (r : Fin 1024) (c : Fin 2048) :
    k0_pay6 X WA (ix2 r c) = ∑ d : Fin 1024, k0_pay4 X (ix2 r d) * WA (ix2 c d) := by
  pointwise [k0_pay6, k0_pay5]

/-- The query projection at an index: the first 1024 columns of the joint one. -/
theorem pay7_apply (X : Vec Ideal S8x128x1024 .f32) (WA : Vec Ideal S2048x1024 .bf16) (r : Fin 1024) (c : Fin 1024) :
    k0_pay7 X WA (ix2 r c) = ∑ d : Fin 1024, k0_pay4 X (ix2 r d) * WA (ix2 (⟨c.val, by omega⟩ : Fin 2048) d) := by
  pointwise [k0_pay7, k0_pay6, k0_pay5]

/-- The transposed key projection at an index. -/
theorem pay8_apply (X : Vec Ideal S8x128x1024 .f32) (WK : Vec Ideal S1024x1024 .bf16) (c : Fin 1024) (r : Fin 1024) :
    k0_pay8 X WK (ix2 c r) = ∑ d : Fin 1024, k0_pay4 X (ix2 r d) * WK (ix2 c d) := by
  pointwise [k0_pay8, k0_pay5]
  exact Finset.sum_congr rfl fun d _ => mul_comm _ _

/-- A load of a covered buffer reads what the stores leave, whatever was there before. -/
theorem readCov_apply {s : Shape} {e : EltTy} (v : View sig .tc .vmem s e) (L : List (View.Piece (Elt Ideal) s e))
    (B : LoadRect s) (j : B.shape.Idx) :
    v.readCov L B j = v.read (Elt Ideal) (v.writes (Elt Ideal) v.junk L) (B.idx j) := by
  rw [View.readCov_eq_canon', View.read_writes_junk_eq_canon]

/-- One batch entry's context rows: the buffer of contexts after `n` stores, these including the entry's. -/
theorem ctx_value (v : View sig .tc .vmem S1024x1024 .bf16) (f : v.ty.Contents (Elt Ideal))
    (X : Vec Ideal S8x128x1024 .f32) (WA : Vec Ideal S2048x1024 .bf16) (WK : Vec Ideal S1024x1024 .bf16)
    (M : Fin 8 → Vec Ideal S1x1x128x128 .f32) (W : Fin 8 → Fin 16 → Vec Ideal S128x128 .bf16)
    (hval : ∀ b h j (u : Fin 64), W b h (ix2 j (⟨u.val, by omega⟩ : Fin 128)) = k0_pay6 X WA (ix2 (row b j) (colProj h u)))
    (hone : ∀ b h j (u : Fin 64), W b h (ix2 j (⟨64 + u.val, by omega⟩ : Fin 128)) = 1)
    (b : Fin 8) (i : Fin 128) (c : Fin 1024) (n : ℕ) (hn : n ≤ 128) (hb : 16 * b.val + 15 < n) :
    v.read (Elt Ideal) (v.writes (Elt Ideal) f (ctxPieces (k0_pay7 X WA) (k0_pay8 X WK)
        (fun b => shapeCast S128x128 (M b) shapeCasts_S1x1x128x128_S128x128) W n)) (ix2 (row b i) c)
      = Layer.context (fun i d => X (ix3 b i d)) (fun i j => M b (ix4 0 0 i j))
          (fun c d => WA (ix2 (⟨c.val, by omega⟩ : Fin 2048) d)) (fun c d => WK (ix2 c d))
          (fun c d => WA (ix2 (⟨1024 + c.val, by omega⟩ : Fin 2048) d)) (head c) i (pos c) := by
  have hM : ∀ i j, shapeCast S128x128 (M b) shapeCasts_S1x1x128x128_S128x128 (ix2 i j) = M b (ix4 0 0 i j) := by
    intro i j; pointwise
  have hv : ∀ (j : Fin 128) (h : Fin 16) (u : Fin 64), k0_pay6 X WA (ix2 (row b j) (colProj h u))
      = proj (fun i d => X (ix3 b i d)) (fun c d => WA (ix2 (⟨1024 + c.val, by omega⟩ : Fin 2048) d)) j (col h u) := by
    intro j h u
    rw [pay6_apply]
    simp only [pay4_apply]
    refine Finset.sum_congr rfl fun d _ => congrArg (_ * ·) (congrArg WA (congrArg (ix2 · d) (Fin.ext ?_)))
    show 1024 + 64 * h.val + u.val = 1024 + (64 * h.val + u.val)
    omega
  conv_lhs => rw [← Layer.col_head_pos c]
  rw [ctx_read v f _ _ _ _ b i (head c) (pos c) n hn (by have := (head c).isLt; omega), pay43_apply]
  simp only [hval, hone, hv, expScore_apply, hM, pay7_apply, pay8_apply, pay4_apply, mul_one]
  rfl

/-- **One point's output block**: each batch entry of the block is the layer of its rows, its mask and the weights, given
    that the value buffer's windows hold the heads' values beside ones. -/
theorem block_value (v : View sig .tc .vmem S1024x1024 .bf16) {κ : Kind} {sp : Space} (vo : View sig κ sp S8x128x1024 .f32)
    (f : vo.ty.Contents (Elt Ideal))
    (X : Vec Ideal S8x128x1024 .f32) (WA : Vec Ideal S2048x1024 .bf16) (WK WO : Vec Ideal S1024x1024 .bf16)
    (M : Fin 8 → Vec Ideal S1x1x128x128 .f32) (W : Fin 8 → Fin 16 → Vec Ideal S128x128 .bf16)
    (hval : ∀ b h j (u : Fin 64), W b h (ix2 j (⟨u.val, by omega⟩ : Fin 128)) = k0_pay6 X WA (ix2 (row b j) (colProj h u)))
    (hone : ∀ b h j (u : Fin 64), W b h (ix2 j (⟨64 + u.val, by omega⟩ : Fin 128)) = 1)
    (b : Fin 8) (i : Fin 128) (e : Fin 1024) :
    vo.read (Elt Ideal) (vo.writes (Elt Ideal) f (outPieces (rowsLo v X WA WK WO M W) (rowsHi v X WA WK WO M W) 8)) (ix3 b i e)
      = Layer.normed nWord epsWord (Layer.hidden (fun i d => X (ix3 b i d)) (fun i j => M b (ix4 0 0 i j))
          (fun c d => WA (ix2 (⟨c.val, by omega⟩ : Fin 2048) d)) (fun c d => WK (ix2 c d))
          (fun c d => WA (ix2 (⟨1024 + c.val, by omega⟩ : Fin 2048) d)) (fun c d => WO (ix2 c d)) i) e := by
  rw [out_read vo f _ _ b i e 8 le_rfl b.isLt]
  by_cases hb : b.val < 4
  · have hr : ∀ h : 128 * (b.val % 4) + i.val < 1024, (⟨128 * (b.val % 4) + i.val, h⟩ : Fin 1024) = row b i := fun h =>
      Fin.ext (by show 128 * (b.val % 4) + i.val = 128 * b.val + i.val; omega)
    rw [if_pos hb, rowsLo, pay191_apply]
    refine congrArg (Layer.normed nWord epsWord · e) (funext fun e' => ?_)
    rw [Layer.hidden, hr, pay4_apply]
    refine congrArg (· + _) (Finset.sum_congr rfl fun c _ => congrArg (· * _) ?_)
    rw [readCov_apply, ← ctx_value v v.junk X WA WK M W hval hone b i c 64 (by omega) (by omega)]
    refine congrArg _ (Shape.idx_ext₂ ?_ ?_)
    · show 0 + 1 * (128 * (b.val % 4) + i.val) = 128 * b.val + i.val
      omega
    · show 0 + 1 * c.val = c.val
      omega
  · have hr : ∀ h : 512 + (128 * (b.val % 4) + i.val) < 1024, (⟨512 + (128 * (b.val % 4) + i.val), h⟩ : Fin 1024) = row b i :=
      fun h => Fin.ext (by show 512 + (128 * (b.val % 4) + i.val) = 128 * b.val + i.val; omega)
    rw [if_neg hb, rowsHi, pay339_apply]
    refine congrArg (Layer.normed nWord epsWord · e) (funext fun e' => ?_)
    rw [Layer.hidden, hr, pay4_apply]
    refine congrArg (· + _) (Finset.sum_congr rfl fun c _ => congrArg (· * _) ?_)
    rw [readCov_apply, ← ctx_value v v.junk X WA WK M W hval hone b i c 128 (by omega) (by omega)]
    refine congrArg _ (Shape.idx_ext₂ ?_ ?_)
    · show 512 + 1 * (128 * (b.val % 4) + i.val) = 128 * b.val + i.val
      omega
    · show 0 + 1 * c.val = c.val
      omega

end Cert.KernelIdeal.Hand
-- ==== Proof.KernelIdealOuts.lean ====
module

public import proofs.«01_k».proof.Proof.KernelIdealBlock

@[expose] public section

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- A buffer of values and ones whose columns of ones hold ones. -/
def Ones (s : Vec Ideal S1024x2048 .bf16) : Prop := ∀ (r : Fin 1024) (h : Fin 16) (k : Fin 64), s (ix2 r (colOne h k)) = 1

/-- A window of the value buffer, read at a column of values. -/
theorem window_val (v : View sig .tc .vmem S1024x2048 .bf16) (f : v.ty.Contents (Elt Ideal))
    (qkv : FVec Ideal S1024x2048 .bf16) (L : List (View.Piece (Elt Ideal) S1024x2048 .bf16)) (b : Fin 8) (h : Fin 16)
    (j : Fin 128) (u : Fin 64) :
    v.read (Elt Ideal) (v.writes (Elt Ideal) f (v2Pieces qkv L 16))
        ((Rect.unit (s := S1024x2048) ![128 * b.val, 128 * h.val] S128x128.size (inb_v2 b h)).toLoadRect.idx
          (ix2 j (⟨u.val, by omega⟩ : Fin 128)))
      = qkv (ix2 (row b j) (colProj h u)) := by
  rw [← v2_val v f qkv L (row b j) h u 16 le_rfl h.isLt]
  refine congrArg _ (Shape.idx_ext₂ ?_ ?_)
  · show 128 * b.val + 1 * j.val = 128 * b.val + j.val
    omega
  · show 128 * h.val + 1 * u.val = 128 * h.val + u.val
    omega

/-- A window of the value buffer, read at a column of ones. -/
theorem window_one (v : View sig .tc .vmem S1024x2048 .bf16) (f : v.ty.Contents (Elt Ideal))
    (qkv : FVec Ideal S1024x2048 .bf16) (L : List (View.Piece (Elt Ideal) S1024x2048 .bf16))
    (hL : Ones (v.read (Elt Ideal) (v.writes (Elt Ideal) f L))) (b : Fin 8) (h : Fin 16)
    (j : Fin 128) (u : Fin 64) :
    v.read (Elt Ideal) (v.writes (Elt Ideal) f (v2Pieces qkv L 16))
        ((Rect.unit (s := S1024x2048) ![128 * b.val, 128 * h.val] S128x128.size (inb_v2 b h)).toLoadRect.idx
          (ix2 j (⟨64 + u.val, by omega⟩ : Fin 128)))
      = 1 := by
  rw [← hL (row b j) h u, ← v2_one v f qkv L (row b j) h u 16 le_rfl]
  refine congrArg _ (Shape.idx_ext₂ ?_ ?_)
  · show 128 * b.val + 1 * j.val = 128 * b.val + j.val
    omega
  · show 128 * h.val + 1 * (64 + u.val) = 128 * h.val + 64 + u.val
    omega

/-- The store of ones leaves ones in the columns of ones. -/
theorem ones_onesPiece (v : View sig .tc .vmem S1024x2048 .bf16) (f : v.ty.Contents (Elt Ideal)) :
    Ones (v.read (Elt Ideal) (v.writes (Elt Ideal) f onesPiece)) := fun _ _ _ => by
  rw [onesPiece_read]
  exact Ideal.ofBits_one_bf16

/-- The batch entry an output block holds, from the input blocks of a point. -/
def entryOf (x0 : Vec Ideal S8x128x1024 .f32) (ms : Fin 8 → Vec Ideal S1x1x128x128 .f32) (x9 : Vec Ideal S2048x1024 .bf16)
    (x10 x11 : Vec Ideal S1024x1024 .bf16) (b : Fin 8) (i : Fin 128) (e : Fin 1024) : EReal :=
  Layer.normed nWord epsWord (Layer.hidden (fun i d => x0 (ix3 b i d)) (fun i j => ms b (ix4 0 0 i j))
    (fun c d => x9 (ix2 (⟨c.val, by omega⟩ : Fin 2048) d)) (fun c d => x10 (ix2 c d))
    (fun c d => x9 (ix2 (⟨1024 + c.val, by omega⟩ : Fin 2048) d)) (fun c d => x11 (ix2 c d)) i) e

section

variable (c : Dev nD) (i : grid0.Coords) (arg2 : Memref sig .tc .vmem S8x128x1024 .f32) (harg2 : arg2.IsWhole) (arg3 :
  Memref sig .tc .vmem S1x1x128x128 .f32) (harg3 : arg3.IsWhole) (arg4 : Memref sig .tc .vmem S1x1x128x128 .f32)
  (harg4 : arg4.IsWhole) (arg5 : Memref sig .tc .vmem S1x1x128x128 .f32) (harg5 : arg5.IsWhole) (arg6 : Memref sig .tc
  .vmem S1x1x128x128 .f32) (harg6 : arg6.IsWhole) (arg7 : Memref sig .tc .vmem S1x1x128x128 .f32) (harg7 :
  arg7.IsWhole) (arg8 : Memref sig .tc .vmem S1x1x128x128 .f32) (harg8 : arg8.IsWhole) (arg9 : Memref sig .tc .vmem
  S1x1x128x128 .f32) (harg9 : arg9.IsWhole) (arg10 : Memref sig .tc .vmem S1x1x128x128 .f32) (harg10 : arg10.IsWhole)
  (arg11 : Memref sig .tc .vmem S2048x1024 .bf16) (harg11 : arg11.IsWhole) (arg12 : Memref sig .tc .vmem S1024x1024
  .bf16) (harg12 : arg12.IsWhole) (arg13 : Memref sig .tc .vmem S1024x1024 .bf16) (harg13 : arg13.IsWhole) (arg14 :
  Memref sig .tc .vmem S8x128x1024 .f32) (harg14 : arg14.IsWhole) (arg15 : Memref sig .tc .vmem S1024x2048 .bf16)
  (harg15 : arg15.IsWhole) (arg16 : Memref sig .tc .vmem S1024x1024 .bf16) (harg16 : arg16.IsWhole)   (x0 : Vec Ideal
  S8x128x1024 .f32) (x1 : Vec Ideal S1x1x128x128 .f32) (x2 : Vec Ideal S1x1x128x128 .f32) (x3 : Vec Ideal S1x1x128x128
  .f32) (x4 : Vec Ideal S1x1x128x128 .f32) (x5 : Vec Ideal S1x1x128x128 .f32) (x6 : Vec Ideal S1x1x128x128 .f32) (x7 :
  Vec Ideal S1x1x128x128 .f32) (x8 : Vec Ideal S1x1x128x128 .f32) (x9 : Vec Ideal S2048x1024 .bf16) (x10 : Vec Ideal
  S1024x1024 .bf16) (x11 : Vec Ideal S1024x1024 .bf16) (xt0 : TbBuf0 (F := Ideal) c tbM0_0)

/-- The first point leaves ones in the columns of ones. -/
theorem ones_A (hc0 : cond0_0 i) : Ones (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0) := by
  intro r h k
  unfold sout0_A_0
  rw [v2_A, v2_one _ _ _ _ _ _ _ 16 le_rfl]
  exact ones_onesPiece _ _ r h k

/-- A later point keeps ones in the columns of ones. -/
theorem ones_B (hc0 : ¬cond0_0 i) (xs0 : Vec Ideal S1024x2048 .bf16) (hp : Ones xs0) : Ones (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0) := by
  intro r h k
  unfold sout0_B_0
  rw [v2_B, v2_one _ _ _ _ _ _ _ 16 le_rfl, View.writes_nil, Memref.IsWhole.read_unread]
  exact hp r h k

/-- The first point's output block. -/
theorem value_A (hc0 : cond0_0 i) (b : Fin 8) (r : Fin 128) (e : Fin 1024) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 (ix3 b r e)
      = entryOf x0 ![x1, x2, x3, x4, x5, x6, x7, x8] x9 x10 x11 b r e := by
  unfold out0_A_12
  rw [out_A]
  simp only [rd_eq]
  exact block_value _ _ _ _ _ _ _ _ _
    (fun b h j u => (readCov_apply _ _ _ _).trans (window_val _ _ _ _ b h j u))
    (fun b h j u => (readCov_apply _ _ _ _).trans (window_one _ _ _ _ (ones_onesPiece _ _) b h j u)) b r e

/-- A later point's output block. -/
theorem value_B (hc0 : ¬cond0_0 i) (xs0 : Vec Ideal S1024x2048 .bf16) (hp : Ones xs0) (b : Fin 8) (r : Fin 128) (e : Fin 1024) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xt0 xs0 (ix3 b r e)
      = entryOf x0 ![x1, x2, x3, x4, x5, x6, x7, x8] x9 x10 x11 b r e := by
  unfold out0_B_12
  rw [out_B]
  simp only [rd_eq]
  exact block_value _ _ _ _ _ _ _ _ _ (fun b h j u => window_val _ _ _ _ b h j u)
    (fun b h j u => window_one _ _ _ _ (by rw [View.writes_nil, Memref.IsWhole.read_unread]; exact hp) b h j u) b r e

end

/-- The first point leaves ones in the columns of ones. -/
theorem ones_caseA (hO : Ok m) (c : Dev nD) (t : Fin (cfgM m hO).N) (h0 : t.val % 32 = 0) : Ones (caseA m hO c t h0).2 := by
  unfold caseA
  dsimp only
  apply ones_A

/-- A later point keeps ones in the columns of ones. -/
theorem ones_caseB (hO : Ok m) (c : Dev nD) (t : Fin (cfgM m hO).N) (h0 : ¬t.val % 32 = 0) (prev : Vec Ideal S1024x2048 .bf16)
    (hp : Ones prev) : Ones (caseB m hO c t h0 prev).2 := by
  unfold caseB
  dsimp only
  apply ones_B
  exact hp

/-- After every point the columns of ones hold ones. -/
theorem ones_outsAt0 (hO : Ok m) (c : Dev nD) : ∀ (n : ℕ) (hn : n < (cfgM m hO).N), Ones (outsAt0 m hO c n hn).2
  | 0, hn => by rw [outsAt0]; exact ones_caseA m hO c _ _
  | n + 1, hn => by
    rw [outsAt0]
    split
    · exact ones_caseA m hO c _ _
    · exact ones_caseB m hO c _ _ _ (ones_outsAt0 hO c n _)

/-- The eight mask blocks of point `t`. -/
def maskBlocks (hO : Ok m) (c : Dev nD) (t : Fin (cfgM m hO).N) : Fin 8 → Vec Ideal S1x1x128x128 .f32 :=
  ![iblk m hO c 1 t, iblk m hO c 2 t, iblk m hO c 3 t, iblk m hO c 4 t, iblk m hO c 5 t, iblk m hO c 6 t, iblk m hO c 7 t,
    iblk m hO c 8 t]

/-- Batch entry `b` of point `t`'s output block, from the point's input blocks. -/
def entryOut (hO : Ok m) (c : Dev nD) (t : Fin (cfgM m hO).N) (b : Fin 8) (i : Fin 128) (e : Fin 1024) : EReal :=
  entryOf (iblk m hO c 0 t) (maskBlocks m hO c t) (iblk m hO c 9 t) (iblk m hO c 10 t) (iblk m hO c 11 t) b i e

/-- The first point's output block. -/
theorem out_caseA (hO : Ok m) (c : Dev nD) (t : Fin (cfgM m hO).N) (h0 : t.val % 32 = 0) (b : Fin 8) (i : Fin 128) (e : Fin 1024) :
    (caseA m hO c t h0).1 (ix3 b i e) = entryOut m hO c t b i e := by
  unfold caseA entryOut maskBlocks
  dsimp only
  apply value_A

/-- A later point's output block. -/
theorem out_caseB (hO : Ok m) (c : Dev nD) (t : Fin (cfgM m hO).N) (h0 : ¬t.val % 32 = 0) (prev : Vec Ideal S1024x2048 .bf16)
    (hp : Ones prev) (b : Fin 8) (i : Fin 128) (e : Fin 1024) :
    (caseB m hO c t h0 prev).1 (ix3 b i e) = entryOut m hO c t b i e := by
  unfold caseB entryOut maskBlocks
  dsimp only
  apply value_B
  exact hp

/-- **Every point's output block.** -/
theorem out_value (hO : Ok m) (c : Dev nD) (t : Fin (cfgM m hO).N) (b : Fin 8) (i : Fin 128) (e : Fin 1024) :
    (outsAt0 m hO c t.val t.isLt).1 (ix3 b i e) = entryOut m hO c t b i e := by
  by_cases h0 : t.val % 32 = 0
  · rw [outsAt0_A m hO c t h0]
    exact out_caseA m hO c t h0 b i e
  · rw [outsAt0_B m hO c t h0]
    exact out_caseB m hO c t h0 _ (ones_outsAt0 m hO c _ _) b i e

end Cert.KernelIdeal.Hand
-- ==== Proof.KernelIdealValue.lean ====
/- The result array of KernelIdeal: batch entry `n` is the layer of the sequence at `n` under the mask the prefetched table
   names for `n`. -/
module

public import proofs.«01_k».proof.Proof.KernelIdealOuts
public import proofs.«01_k».proof.Proof.KernelIdealTable
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)
open Idealize.SL.Sem

variable (m : (ℓ : Loc nD τ sig) → Buf (Elt Ideal) ℓ)

/-- Two indices of rank three with the same coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (match a with | ⟨0, _⟩ => h0 | ⟨1, _⟩ => h1 | ⟨2, _⟩ => h2)

/-- The only grid coordinate of a point is its number. -/
theorem coords_val : ∀ t : Fin grid0.N, (grid0.coords t 0).val = t.val := by decide +kernel

/-- The sequence block of a point starts at its eight batch entries. -/
theorem seq_index (i : grid0.Coords) : cc0_transform_0 i = ![(i 0).val, 0, 0] := by
  have h : ∀ a : Fin 32, (BitVec.ofNat 32 a.val).toNat = a.val := by decide +kernel
  exact congrArg (fun n => ![n, 0, 0]) (h (i 0))

/-- The output block of a point starts at its eight batch entries. -/
theorem out_index (i : grid0.Coords) : cc0_transform_12 i = ![(i 0).val, 0, 0] := seq_index i

/-- An index inside the block of eight batch entries starting at `8 * n`. -/
theorem block_idx (i : grid0.Coords) (idx : Fin 3 → Nat) (h : idx = ![(i 0).val, 0, 0]) (y : S8x128x1024.Idx)
    (x : S256x128x1024.Idx) (hx : ∀ a, (x a).val = idx a * S8x128x1024.size a + 1 * (y a).val) :
    x = ix3 (pos i (y 0)) (y 1) (y 2) := by
  subst h
  funext a
  apply Fin.ext
  rw [hx a]
  match a with
  | ⟨0, _⟩ => show (i 0).val * 8 + 1 * (y 0).val = 8 * (i 0).val + (y 0).val; omega
  | ⟨1, _⟩ => show 0 * 128 + 1 * (y 1).val = (y 1).val; omega
  | ⟨2, _⟩ => show 0 * 1024 + 1 * (y 2).val = (y 2).val; omega

/-- An index inside a block that is the whole array. -/
theorem whole_idx (S : Shape) (idx : Fin S.rank → Nat) (h : ∀ a, idx a = 0) (x y : S.Idx)
    (hx : ∀ a, (x a).val = idx a * S.size a + 1 * (y a).val) : x = y :=
  funext fun a => Fin.ext (by rw [hx a, h a]; omega)

/-- The block of an array that is its own block starts at zero. -/
theorem whole_index (i : grid0.Coords) (a : Fin 2) : cc0_transform_9 i a = 0 :=
  match a with
  | ⟨0, _⟩ => rfl
  | ⟨1, _⟩ => rfl

/-- The batch position of entry `b` of point `t`. -/
abbrev entry (hO : Ok m) (t : Fin (cfgM m hO).N) (b : Fin 8) : Fin 256 := pos (grid0.coords t) b

/-- The sequence block of point `t`. -/
theorem iblk_seq (hO : Ok m) (c : Dev nD) (t : Fin (cfgM m hO).N) (b : Fin 8) (i : Fin 128) (d : Fin 1024) :
    (iblk m hO c 0 t : Vec Ideal S8x128x1024 .f32) (ix3 b i d) = V m c main_arg0 (ix3 (entry m hO t b) i d) := by
  exact congrArg (V m c main_arg0) (block_idx (grid0.coords t) _ (seq_index (grid0.coords t)) (ix3 b i d)
    ((((cfgM m hO).win 0).blk t).view.emb (ix3 b i d : S8x128x1024.Idx)) fun _ => rfl)

/-- An index of the masks inside the block of batch index `n`. -/
theorem mask_idx (n : Fin 256) (i j : Fin 128) (idx : Fin 4 → Nat) (h : idx = ![n.val, 0, 0, 0]) (x : S256x1x128x128.Idx)
    (hx : ∀ a, (x a).val = idx a * S1x1x128x128.size a + 1 * ((ix4 0 0 i j : S1x1x128x128.Idx) a).val) : x = ix4 n 0 i j := by
  subst h
  funext a
  apply Fin.ext
  rw [hx a]
  match a with
  | ⟨0, _⟩ => show n.val * 1 + 1 * 0 = n.val; omega
  | ⟨1, _⟩ => rfl
  | ⟨2, _⟩ => show 0 * 128 + 1 * i.val = i.val; omega
  | ⟨3, _⟩ => show 0 * 128 + 1 * j.val = j.val; omega

/-- The index map of mask window `r`: the batch index the table names. -/
theorem mask_index (i : grid0.Coords) (r : Fin 8) :
    ![((tbl m).at 0 (Rect.unit (s := S256) (k0_off1 i (BitVec.ofNat 32 r.val)) S1.size (k0_off1_inb i r)) numel1_S1 : BitVec 32).toNat,
      0, 0, 0] = ![(inv m (pos i r)).val, 0, 0, 0] := by rw [at_toNat]

/-- The mask blocks of point `t`: the masks the table names for its batch entries. -/
theorem maskBlocks_apply (hO : Ok m) (c : Dev nD) (t : Fin (cfgM m hO).N) (b : Fin 8) (i j : Fin 128) :
    maskBlocks m hO c t b (ix4 0 0 i j) = V m c main_arg1 (ix4 (inv m (entry m hO t b)) 0 i j) := by
  have at_place (idx : Fin 4 → Nat) (r : Fin 8)
      (h : idx = ![((tbl m).at 0 (Rect.unit (s := S256) (k0_off1 (grid0.coords t) (BitVec.ofNat 32 r.val)) S1.size
        (k0_off1_inb (grid0.coords t) r)) numel1_S1 : BitVec 32).toNat, 0, 0, 0])
      (x : S256x1x128x128.Idx)
      (hx : ∀ a, (x a).val = idx a * S1x1x128x128.size a + 1 * ((ix4 0 0 i j : S1x1x128x128.Idx) a).val) :
      x = ix4 (inv m (entry m hO t r)) 0 i j :=
    mask_idx _ i j idx (h.trans (mask_index m (grid0.coords t) r)) x hx
  match b with
  | 0 => exact congrArg (V m c main_arg1) (at_place (((cfgM m hO).win 1).index t) 0 (by sl_kernel_rfl)
      ((((cfgM m hO).win 1).blk t).view.emb (ix4 0 0 i j)) fun _ => rfl)
  | 1 => exact congrArg (V m c main_arg1) (at_place (((cfgM m hO).win 2).index t) 1 (by sl_kernel_rfl)
      ((((cfgM m hO).win 2).blk t).view.emb (ix4 0 0 i j)) fun _ => rfl)
  | 2 => exact congrArg (V m c main_arg1) (at_place (((cfgM m hO).win 3).index t) 2 (by sl_kernel_rfl)
      ((((cfgM m hO).win 3).blk t).view.emb (ix4 0 0 i j)) fun _ => rfl)
  | 3 => exact congrArg (V m c main_arg1) (at_place (((cfgM m hO).win 4).index t) 3 (by sl_kernel_rfl)
      ((((cfgM m hO).win 4).blk t).view.emb (ix4 0 0 i j)) fun _ => rfl)
  | 4 => exact congrArg (V m c main_arg1) (at_place (((cfgM m hO).win 5).index t) 4 (by sl_kernel_rfl)
      ((((cfgM m hO).win 5).blk t).view.emb (ix4 0 0 i j)) fun _ => rfl)
  | 5 => exact congrArg (V m c main_arg1) (at_place (((cfgM m hO).win 6).index t) 5 (by sl_kernel_rfl)
      ((((cfgM m hO).win 6).blk t).view.emb (ix4 0 0 i j)) fun _ => rfl)
  | 6 => exact congrArg (V m c main_arg1) (at_place (((cfgM m hO).win 7).index t) 6 (by sl_kernel_rfl)
      ((((cfgM m hO).win 7).blk t).view.emb (ix4 0 0 i j)) fun _ => rfl)
  | 7 => exact congrArg (V m c main_arg1) (at_place (((cfgM m hO).win 8).index t) 7 (by sl_kernel_rfl)
      ((((cfgM m hO).win 8).blk t).view.emb (ix4 0 0 i j)) fun _ => rfl)

/-- The block of the stacked weights is the whole array. -/
theorem iblk_wqv (hO : Ok m) (c : Dev nD) (t : Fin (cfgM m hO).N) : iblk m hO c 9 t = V m c main_v6 := by
  funext y
  exact congrArg (V m c main_v6) (whole_idx S2048x1024 (((cfgM m hO).win 9).index t) (whole_index (grid0.coords t)) ((((cfgM m hO).win 9).blk t).view.emb y) y fun _ => rfl)

/-- The block of the key weights is the whole array. -/
theorem iblk_wk (hO : Ok m) (c : Dev nD) (t : Fin (cfgM m hO).N) : iblk m hO c 10 t = V m c main_v7 := by
  funext y
  exact congrArg (V m c main_v7) (whole_idx S1024x1024 (((cfgM m hO).win 10).index t) (whole_index (grid0.coords t)) ((((cfgM m hO).win 10).blk t).view.emb y) y fun _ => rfl)

/-- The block of the output weights is the whole array. -/
theorem iblk_wo (hO : Ok m) (c : Dev nD) (t : Fin (cfgM m hO).N) : iblk m hO c 11 t = V m c main_v8 := by
  funext y
  exact congrArg (V m c main_v8) (whole_idx S1024x1024 (((cfgM m hO).win 11).index t) (whole_index (grid0.coords t)) ((((cfgM m hO).win 11).blk t).view.emb y) y fun _ => rfl)

/-- What the result array is shown to hold at batch entry `n`, row `i`, column `e`. -/
def result (c : Dev nD) (n : Fin 256) (i : Fin 128) (e : Fin 1024) : EReal :=
  Layer.normed nWord epsWord (Layer.hidden (fun i d => V m c main_arg0 (ix3 n i d))
    (fun i j => V m c main_arg1 (ix4 (inv m n) 0 i j))
    (fun k d => V m c main_v6 (ix2 (⟨k.val, by omega⟩ : Fin 2048) d)) (fun k d => V m c main_v7 (ix2 k d))
    (fun k d => V m c main_v6 (ix2 (⟨1024 + k.val, by omega⟩ : Fin 2048) d)) (fun k d => V m c main_v8 (ix2 k d)) i) e

/-- Every point's output block is the result at the point's batch entries. -/
theorem entryOut_eq (hO : Ok m) (c : Dev nD) (t : Fin (cfgM m hO).N) (b : Fin 8) (i : Fin 128) (e : Fin 1024) :
    entryOut m hO c t b i e = result m c (entry m hO t b) i e := by
  unfold entryOut entryOf result
  rw [iblk_wqv, iblk_wk, iblk_wo]
  simp only [iblk_seq, maskBlocks_apply]

/-- The result array. -/
def resultArr (c : Dev nD) : Buf (Elt Ideal) ((c : Thread nD τ).loc main_v9) :=
  fun x : S256x128x1024.Idx => result m c (x 0) (x 1) (x 2)

/-- Where point `t`'s output block lies in the result array. -/
theorem emb_out (hO : Ok m) (t : Fin (cfgM m hO).N) (y : S8x128x1024.Idx) :
    (((cfgM m hO).win 12).blk t).view.emb y = ix3 (entry m hO t (y 0)) (y 1) (y 2) := by
  exact block_idx (grid0.coords t) _ (out_index (grid0.coords t)) y ((((cfgM m hO).win 12).blk t).view.emb y) fun _ => rfl

/-- A point's output block at an index of it. -/
theorem block_read (hO : Ok m) (c : Dev nD) (t : Fin (cfgM m hO).N) (y : S8x128x1024.Idx) :
    (outsAt0 m hO c t.val t.isLt).1 y = resultArr m c ((((cfgM m hO).win 12).blk t).view.emb y) := by
  have hy : y = ix3 (y 0) (y 1) (y 2) := idx_ext₃ rfl rfl rfl
  refine (congrArg (outsAt0 m hO c t.val t.isLt).1 hy).trans ?_
  refine ((out_value m hO c t _ _ _).trans (entryOut_eq m hO c t _ _ _)).trans ?_
  exact (congrArg (resultArr m c) (emb_out m hO t y)).symm

/-- What a point writes back is its block of the result. -/
theorem flushed_eq (hO : Ok m) (c : Dev nD) (t : Fin (cfgM m hO).N) :
    (dats m hO 0 c).flushed 12 t = (((cfgM m hO).win 12).blk t).view.read (Elt Ideal) (resultArr m c) := by
  refine (congrArg (((cfgM m hO).win 12).cut (grid0.coords t)) (after0_12 m hO c t)).trans (funext fun y => ?_)
  exact block_read m hO c t y

/-- Every index of the result array is the place of an index of some point's block. -/
theorem exists_emb (hO : Ok m) (x : S256x128x1024.Idx) :
    ∃ (t : Fin (cfgM m hO).N) (y : S8x128x1024.Idx), x = (((cfgM m hO).win 12).blk t).view.emb y := by
  have h0 : (x 0).val < 256 := (x 0).isLt
  have hN : grid0.N = 32 := N_0
  have ht : (x 0).val / 8 < grid0.N := by omega
  refine ⟨⟨(x 0).val / 8, ht⟩, ix3 (⟨(x 0).val % 8, by omega⟩ : Fin 8) (x 1) (x 2), ?_⟩
  refine Eq.trans ?_ (emb_out m hO ⟨(x 0).val / 8, ht⟩ (ix3 (⟨(x 0).val % 8, by omega⟩ : Fin 8) (x 1) (x 2))).symm
  refine idx_ext₃ ?_ rfl rfl
  show (x 0).val = 8 * (grid0.coords ⟨(x 0).val / 8, ht⟩ 0).val + (x 0).val % 8
  rw [coords_val]
  show (x 0).val = 8 * ((x 0).val / 8) + (x 0).val % 8
  omega

/-- Every element of the result array is in some point's block. -/
theorem covered (hO : Ok m) (x : S256x128x1024.Idx) :
    ∃ t : Fin (cfgM m hO).N, ((cfgM m hO).win 12).flush t = true ∧ x ∈ (((cfgM m hO).win 12).blk t).view.set := by
  obtain ⟨t, y, rfl⟩ := exists_emb m hO x
  exact ⟨t, flush0_12 _ _, View.emb_mem_set _ _⟩

/-- The result array after the run. -/
theorem final (hO : Ok m) (c : Dev nD) : (dats m hO 0 c).arrAt 12 (cfgM m hO).N = resultArr m c :=
  (dats m hO 0 c).arrAt_eq_of_cover 12 (resultArr m c) (fun t _ => flushed_eq m hO c t) (covered m hO)

end Cert.KernelIdeal.Hand

end
-- ==== Proof.KernelIdealRun.lean ====
/- The run of KernelIdeal, with the result array as a function of the arguments. -/
module

public import proofs.«01_k».proof.Proof.KernelIdealValue

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The word the kernel scales the query weights by. -/
abbrev scaleWord : EReal := Ideal.ofBits .f32 0x3E000000#32

/-- A weight matrix by row and column. -/
abbrev weights (w : FVec Ideal S1024x1024 .f32) (k d : Fin 1024) : EReal := w (ix2 k d)

/-- The stacked weights the region finds: the scaled query weights over the value weights. -/
theorem V_main_v6 (c : Dev nD) : V m c main_v6 = truncf (F := Ideal) .bf16 (concatenate S2048x1024 0
    [⟨S1024x1024, mulf (m ((c : Thread nD τ).loc main_arg3) : FVec Ideal S1024x1024 .f32)
        (broadcastInDim S1024x1024 ![] bcast_S_S1024x1024 (constant (F := Ideal) S_ .f32 0x3E000000#32))⟩,
      ⟨S1024x1024, m ((c : Thread nD τ).loc main_arg7)⟩]
    concatenates_S1024x1024_S1024x1024_S2048x1024_d0) bitsLt_bf16_f32 := by
  unfold V
  simp only [List.flatten_cons, List.flatten_nil, List.append_nil, List.cons_append, List.nil_append]
  after_reads_simp
  rfl

/-- The key weights the region finds. -/
theorem V_main_v7 (c : Dev nD) :
    V m c main_v7 = truncf (F := Ideal) .bf16 (m ((c : Thread nD τ).loc main_arg5) : FVec Ideal S1024x1024 .f32) bitsLt_bf16_f32 := by
  unfold V
  simp only [List.flatten_cons, List.flatten_nil, List.append_nil, List.cons_append, List.nil_append]
  after_reads_simp

/-- The output weights the region finds. -/
theorem V_main_v8 (c : Dev nD) :
    V m c main_v8 = truncf (F := Ideal) .bf16 (m ((c : Thread nD τ).loc main_arg9) : FVec Ideal S1024x1024 .f32) bitsLt_bf16_f32 := by
  unfold V
  simp only [List.flatten_cons, List.flatten_nil, List.append_nil, List.cons_append, List.nil_append]
  after_reads_simp

/-- A row of the upper half of the stacked weights. -/
theorem wq_apply (c : Dev nD) (k d : Fin 1024) : V m c main_v6 (ix2 (⟨k.val, by omega⟩ : Fin 2048) d)
    = (weights (m ((c : Thread nD τ).loc main_arg3)) k d : EReal) * scaleWord := by
  rw [V_main_v6]
  pointwise

/-- A row of the lower half of the stacked weights. -/
theorem wv_apply (c : Dev nD) (k d : Fin 1024) : V m c main_v6 (ix2 (⟨1024 + k.val, by omega⟩ : Fin 2048) d)
    = (m ((c : Thread nD τ).loc main_arg7) : FVec Ideal S1024x1024 .f32) (ix2 k d) := by
  rw [V_main_v6]
  pointwise

/-- The result at batch entry `n`, row `i`, column `e`, from the arguments. -/
theorem result_eq (c : Dev nD) (n : Fin 256) (i : Fin 128) (e : Fin 1024) : result m c n i e
    = Layer.normed nWord epsWord (Layer.hidden
        (fun i d => (m ((c : Thread nD τ).loc main_arg0) : FVec Ideal S256x128x1024 .f32) (ix3 n i d))
        (fun i j => (m ((c : Thread nD τ).loc main_arg1) : FVec Ideal S256x1x128x128 .f32) (ix4 (inv m n) 0 i j))
        (fun k d => (weights (m ((c : Thread nD τ).loc main_arg3)) k d : EReal) * scaleWord)
        (weights (m ((c : Thread nD τ).loc main_arg5)))
        (weights (m ((c : Thread nD τ).loc main_arg7)))
        (weights (m ((c : Thread nD τ).loc main_arg9))) i) e := by
  unfold result
  refine congrFun (congrArg (Layer.normed nWord epsWord) (congrFun (Layer.hidden_congr ?_ ?_ ?_ ?_ ?_ ?_) i)) e
  · exact fun _ _ => congrFun (V_main_arg0 m c) _
  · exact fun _ _ => congrFun (V_main_arg1 m c) _
  · exact wq_apply m c
  · exact fun _ _ => congrFun (V_main_v7 m c) _
  · exact wv_apply m c
  · exact fun _ _ => congrFun (V_main_v8 m c) _

/-- The run: the result array at its value, the arguments unchanged. -/
theorem run : θ_run defs (onTc (τ := τ) (main (F := Ideal))) ⟨m, fun _ => 0, ρ⟩ (fun r => ∀ c : Dev nD,
      r.2.mem ((c.tc : Thread nD τ).loc main_v9) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 12).trans (final m (ok m) c),
      ((h c).1 0).trans (((dats m (ok m) 0 c).arrAt_in 0 rfl _).trans ((A_eq m (ok m) c 0).trans (V_main_arg0 m c))),
      ((h c).1 8).trans (((dats m (ok m) 0 c).arrAt_in 8 rfl _).trans ((A_eq m (ok m) c 8).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c)⟩)
    (run_main m ρ (ok m))

end Cert.KernelIdeal.Hand

end
-- ==== Proof.ReferenceIdealTake.lean ====
/- Taking rows of an array at an array of row numbers, as the reference does it: negative numbers count from the end, and a
   number outside the rows gives no number. At row numbers inside the rows it is the row itself. -/
module

public import proofs.«01_k».proof.Proof.Gen.ReferenceIdeal.Read
public import Idealize.ShloMosaic.Lib.Pointwise
public import Idealize.ShloMosaic.Lib.ReduceAll
public import Idealize.ShloMosaic.Lib.ValueIdxCore

@[expose] public section

noncomputable section

namespace Cert.ReferenceIdeal.Hand

open Cert.ReferenceIdeal Cert.ReferenceIdeal.Gen Cert.ReferenceIdeal.Read
open Idealize.ShloMosaic Idealize.ShloMosaic.TcCoe

/-- The row numbers with the negative ones counted from the end, as a column. -/
def starts (v : IVec S256 32) : IVec S256x1 32 :=
  broadcastInDim S256x1 ![0] bcast_S256_S256x1_0
    (select (cmpi .slt v (broadcastInDim S256 ![] bcast_S_S256 (constantI S_ 32 0#32)))
      (addi v (broadcastInDim S256 ![] bcast_S_S256 (constantI S_ 32 256#32))) v)

/-- Which of the row numbers lie inside the rows. -/
def inside (v : IVec S256 32) : IVec S256x1 1 :=
  andi (cmpi .sge (starts v) (broadcastInDim S256x1 ![] bcast_S_S256x1 (constantI S_ 32 0#32)))
    (cmpi .sle (starts v) (broadcastInDim S256x1 ![0, 1] bcast_S1x1_S256x1_0_1
      (broadcastInDim S1x1 ![1] bcast_S1_S1x1_1 (constantI S1 32 255#32))))

/-- The rows of `x` at the row numbers `v`. -/
def takeRows (x : FVec Ideal S256x131072 .f32) (v : IVec S256 32) : FVec Ideal S256x131072 .f32 :=
  select (broadcastInDim S256x131072 ![0] bcast_S256_S256x131072_0
      (Host.reduce IntOp.andi (inside v) (constantI S_ 1 1#1) reducesTo_S256x1_S256_d1 h_S_))
    (Host.gather gather_S256x131072_S256x1_S256x131072_1_0_n_n_0_1_1131072 x (starts v))
    (broadcastInDim S256x131072 ![] bcast_S_S256x131072 (constant (F := Ideal) S_ .f32 0x7FC00000#32))

/-- A row number inside the rows is left as it is. -/
theorem word_start : ∀ s : Fin 256, Scalar.select (IntOp.cmpi .slt (BitVec.ofNat 32 s.val) 0#32)
    (IntOp.addi (BitVec.ofNat 32 s.val) 256#32) (BitVec.ofNat 32 s.val) = BitVec.ofNat 32 s.val := by decide +kernel

/-- A row number inside the rows passes both bounds. -/
theorem word_inside : ∀ s : Fin 256, IntOp.andi (IntOp.cmpi .sge (BitVec.ofNat 32 s.val) 0#32)
    (IntOp.cmpi .sle (BitVec.ofNat 32 s.val) 255#32) = 1#1 := by decide +kernel

/-- A row number inside the rows, read signed and clamped, is itself. -/
theorem word_row : ∀ s : Fin 256, min (BitVec.ofNat 32 s.val).toInt.toNat 255 = s.val := by decide +kernel

/-- The column of row numbers at row numbers inside the rows. -/
theorem starts_apply (v : IVec S256 32) (s : Fin 256 → Fin 256) (hv : ∀ r, v (ix1 r) = BitVec.ofNat 32 (s r).val)
    (r : Fin 256) (z : Fin 1) : starts v (ix2 r z) = BitVec.ofNat 32 (s r).val := by
  have h : starts v (ix2 r z) = Scalar.select (IntOp.cmpi .slt (v (ix1 r)) 0#32) (IntOp.addi (v (ix1 r)) 256#32) (v (ix1 r)) := by
    pointwise [starts]
  rw [h, hv]
  exact word_start (s r)

/-- Every row number is inside the rows. -/
theorem inside_apply (v : IVec S256 32) (s : Fin 256 → Fin 256) (hv : ∀ r, v (ix1 r) = BitVec.ofNat 32 (s r).val)
    (y : S256x1.Idx) : inside v y = 1#1 := by
  have h : inside v y = IntOp.andi (IntOp.cmpi .sge (starts v y) 0#32) (IntOp.cmpi .sle (starts v y) 255#32) := by
    pointwise [inside]
  obtain ⟨r, z, rfl⟩ : ∃ (r : Fin 256) (z : Fin 1), y = ix2 r z := ⟨y 0, y 1, Shape.idx_ext₂ rfl rfl⟩
  rw [h, starts_apply v s hv]
  exact word_inside (s r)

/-- The gather of whole rows at an index: the row its start names, read signed and clamped into the rows. -/
theorem gather_apply (x : FVec Ideal S256x131072 .f32) (idx : IVec S256x1 32) (r : Fin 256) (q : Fin 131072) :
    Host.gather gather_S256x131072_S256x1_S256x131072_1_0_n_n_0_1_1131072 x idx (ix2 r q)
      = x (ix2 (⟨min (idx (ix2 r (0 : Fin 1))).toInt.toNat 255, by omega⟩ : Fin 256) q) := by
  unfold Host.gather
  refine congrArg x (Shape.idx_ext₂ ?_ ?_)
  · show GatherDims.start gather_S256x131072_S256x1_S256x131072_1_0_n_n_0_1_1131072 (ix2 r q) idx 0
      + GatherDims.batchCoord gather_S256x131072_S256x1_S256x131072_1_0_n_n_0_1_1131072 (ix2 r q) 0
      + GatherDims.offCoord gather_S256x131072_S256x1_S256x131072_1_0_n_n_0_1_1131072 (ix2 r q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GatherDims.startIndexMap gather_S256x131072_S256x1_S256x131072_1_0_n_n_0_1_1131072 from
      List.mem_singleton.mpr rfl)]
    refine congrArg (fun y => min (idx y).toInt.toNat 255) (Shape.idx_ext₂ ?_ ?_)
    · rfl
    · rfl
  · show GatherDims.start gather_S256x131072_S256x1_S256x131072_1_0_n_n_0_1_1131072 (ix2 r q) idx 1
      + GatherDims.batchCoord gather_S256x131072_S256x1_S256x131072_1_0_n_n_0_1_1131072 (ix2 r q) 1
      + GatherDims.offCoord gather_S256x131072_S256x1_S256x131072_1_0_n_n_0_1_1131072 (ix2 r q) 1 = _
    rw [GatherDims.batchCoord_eq_zero _ _ _ List.not_mem_nil]
    unfold GatherDims.start
    rw [dif_neg (show ¬(1 : Fin 2) ∈ GatherDims.startIndexMap gather_S256x131072_S256x1_S256x131072_1_0_n_n_0_1_1131072 from
      fun h => absurd (List.mem_singleton.mp h) (by decide))]
    show 0 + 0 + q.val = q.val
    omega

/-- The rows taken at row numbers inside the rows. -/
theorem takeRows_apply (x : FVec Ideal S256x131072 .f32) (v : IVec S256 32) (s : Fin 256 → Fin 256)
    (hv : ∀ r, v (ix1 r) = BitVec.ofNat 32 (s r).val) (r : Fin 256) (q : Fin 131072) :
    takeRows x v (ix2 r q) = x (ix2 (s r) q) := by
  have h : takeRows x v (ix2 r q) = Scalar.select
      (Host.reduce IntOp.andi (inside v) (constantI S_ 1 1#1) reducesTo_S256x1_S256_d1 h_S_ (ix1 r))
      (Host.gather gather_S256x131072_S256x1_S256x131072_1_0_n_n_0_1_1131072 x (starts v) (ix2 r q))
      (Ideal.ofBits .f32 0x7FC00000#32) := by
    pointwise [takeRows]
  rw [h, Host.reduce_andi_one _ _ _ _ _ rfl (inside_apply v s hv), gather_apply]
  refine congrArg x (Shape.idx_ext₂ ?_ rfl)
  exact (congrArg (fun w : BitVec 32 => min w.toInt.toNat 255) (starts_apply v s hv r 0)).trans (word_row (s r))

end Cert.ReferenceIdeal.Hand

end
-- ==== Proof.Plain.lean ====
module

public import proofs.«01_k».proof.Proof.Layer

@[expose] public section

/-!
  One batch entry of the attention layer as a function on extended reals, in the order in which the reference computes it.
-/

noncomputable section

namespace Cert.Plain

open Idealize.ShloMosaic Cert.Layer
open scoped BigOperators

/-- A projection with its bias. -/
def biased {n : ℕ} (x : Fin n → Fin 1024 → EReal) (w : Fin 1024 → Fin 1024 → EReal) (b : Fin 1024 → EReal) (i : Fin n)
    (c : Fin 1024) : EReal := proj x w i c + b c

section Attention

variable (x : Fin 128 → Fin 1024 → EReal) (mask : Fin 128 → Fin 128 → EReal) (wq wk wv wo : Fin 1024 → Fin 1024 → EReal)
  (bq bk bv bo : Fin 1024 → EReal)

/-- Head `h`'s score of row `i` against row `j`: the product of query and key over eight, plus the mask. -/
def score (h : Fin 16) (i j : Fin 128) : EReal :=
  Ideal.div (∑ u : Fin 64, biased x wq bq i (col h u) * biased x wk bk j (col h u)) (Ideal.ofBits .f32 0x41000000#32)
    + mask i j

/-- The largest score of row `i`. -/
def peak (h : Fin 16) (i : Fin 128) : EReal :=
  max ⊥ ((Finset.univ : Finset (Fin 128)).fold max ⊥ (score x mask wq wk bq bk h i))

/-- The exponential of a score below its row's peak. -/
def expo (h : Fin 16) (i j : Fin 128) : EReal :=
  Ideal.exp (score x mask wq wk bq bk h i j - peak x mask wq wk bq bk h i)

/-- The softmax of a row of scores. -/
def share (h : Fin 16) (i j : Fin 128) : EReal :=
  Ideal.div (expo x mask wq wk bq bk h i j) (∑ k : Fin 128, expo x mask wq wk bq bk h i k)

/-- The attention output of row `i` at column `u` of head `h`. -/
def context (h : Fin 16) (i : Fin 128) (u : Fin 64) : EReal :=
  ∑ j : Fin 128, share x mask wq wk bq bk h i j * biased x wv bv j (col h u)

/-- The output projection with its bias, plus the residual. -/
def hidden (i : Fin 128) (e : Fin 1024) : EReal :=
  ∑ c : Fin 1024, context x mask wq wk wv bq bk bv (head c) i (pos c) * wo e c + bo e + x i e

end Attention

/-- The mean of a row. -/
def mean (y : Fin 1024 → EReal) : EReal := Ideal.div (∑ d : Fin 1024, y d) (Ideal.ofBits .f32 0x44800000#32)

/-- A row normalised: its deviation from the mean over the square root of the mean squared deviation, scaled and shifted. -/
def normed (eps : EReal) (lw lb : Fin 1024 → EReal) (y : Fin 1024 → EReal) (e : Fin 1024) : EReal :=
  lw e * Ideal.div (y e - mean y) (Ideal.sqrt (mean (fun d => (y d - mean y) * (y d - mean y)) + eps)) + lb e

end Cert.Plain
-- ==== Proof.PlainReal.lean ====
module

public import proofs.«01_k».proof.Proof.Plain
public import Idealize.ShloMosaic.PureOps.Ideal.Laws

@[expose] public section

/-!
  On finite arguments, the mask's entries allowed to be minus infinity, the kernel's order and the reference's
  order of the layer give the same numbers.
-/

noncomputable section

namespace Cert.Plain

open Idealize.ShloMosaic Cert.Layer
open scoped BigOperators

/-- A finite sum of reals, read in the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The quotient of two reals, the divisor not zero. -/
theorem div_real (a b : ℝ) (hb : b ≠ 0) : Ideal.div (a : EReal) (b : EReal) = ((a / b : ℝ) : EReal) := by
  rw [Ideal.div_coe hb, ← EReal.coe_mul, mul_one_div]

/-- The word of one eighth. -/
theorem word_eighth : Ideal.ofBits .f32 0x3E000000#32 = ((1 / 8 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of one part in 1024. -/
theorem word_n : Ideal.ofBits .f32 0x3A800000#32 = ((1 / 1024 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- The word of minus infinity. -/
theorem word_bot : Ideal.ofBits .f32 0xFF800000#32 = ⊥ := by
  simp [Ideal.ofBits, Ideal.ieee]

/-- The real the word added to the variance stands for. -/
def eps : ℝ := 9223372 / 2 ^ 63

/-- The word added to the variance. -/
theorem word_eps : Ideal.ofBits .f32 0x2B8CBCCC#32 = (eps : EReal) := by
  simp [Ideal.ofBits, Ideal.ieee, eps, -EReal.coe_mul]; norm_num

/-- What is added to the variance is positive. -/
theorem eps_pos : 0 < eps := by unfold eps; positivity

/-- The exponential of a real plus an entry of a mask, the entry a real or minus infinity. -/
def weight (a : ℝ) (k : EReal) : ℝ := if k = ⊥ then 0 else Real.exp (a + k.toReal)

/-- A weight is not negative. -/
theorem weight_nonneg (a : ℝ) (k : EReal) : 0 ≤ weight a k := by
  unfold weight
  split
  · exact le_rfl
  · exact (Real.exp_pos _).le

/-- A weight whose mask entry is not minus infinity is positive. -/
theorem weight_pos (a : ℝ) {k : EReal} (h : k ≠ ⊥) : 0 < weight a k := by
  unfold weight
  rw [if_neg h]
  exact Real.exp_pos _

/-- The exponential of a masked real is its weight. -/
theorem exp_masked (a : ℝ) {k : EReal} (h : k ≠ ⊤) : Ideal.exp ((a : EReal) + k) = (weight a k : EReal) := by
  induction k using EReal.rec with
  | bot => rw [EReal.add_bot, weight, if_pos rfl]; rfl
  | coe k => rw [← EReal.coe_add, Ideal.exp_coe, weight, if_neg (EReal.coe_ne_bot k), EReal.toReal_coe]
  | top => exact absurd rfl h

/-- A shift of the exponent by a real multiplies the weight. -/
theorem exp_masked_shift (a o r : ℝ) {k : EReal} (h : k ≠ ⊤) :
    Ideal.exp (((a + o : ℝ) : EReal) + k - (r : EReal)) = ((weight a k * Real.exp (o - r) : ℝ) : EReal) := by
  induction k using EReal.rec with
  | bot => rw [EReal.add_bot, EReal.bot_sub, weight, if_pos rfl, zero_mul]; rfl
  | coe k =>
    rw [← EReal.coe_add, ← EReal.coe_sub, Ideal.exp_coe, weight, if_neg (EReal.coe_ne_bot k), EReal.toReal_coe, ← Real.exp_add]
    exact congrArg (fun t => ((Real.exp t : ℝ) : EReal)) (by ring)
  | top => exact absurd rfl h

section Attention

variable (x : Fin 128 → Fin 1024 → ℝ) (mask : Fin 128 → Fin 128 → EReal) (wq wk wv wo : Fin 1024 → Fin 1024 → ℝ) (bk : Fin 1024 → ℝ)

/-- A projection over the reals. -/
def rproj {n : ℕ} (x : Fin n → Fin 1024 → ℝ) (w : Fin 1024 → Fin 1024 → ℝ) (i : Fin n) (c : Fin 1024) : ℝ :=
  ∑ d : Fin 1024, x i d * w c d

/-- A projection of reals is a real. -/
theorem proj_real {n : ℕ} (x : Fin n → Fin 1024 → ℝ) (w : Fin 1024 → Fin 1024 → ℝ) (i : Fin n) (c : Fin 1024) :
    proj (fun i d => (x i d : EReal)) (fun k d => (w k d : EReal)) i c = (rproj x w i c : EReal) := by
  unfold proj rproj
  rw [← coe_sum]
  exact Finset.sum_congr rfl fun d _ => (EReal.coe_mul _ _).symm

/-- The score without the key's bias and without the mask over the reals. -/
def rscore (h : Fin 16) (i j : Fin 128) : ℝ :=
  (∑ u : Fin 64, rproj x wq i (col h u) * rproj x wk j (col h u)) / 8

/-- The exponential of that score plus the mask. -/
def rexpo (h : Fin 16) (i j : Fin 128) : ℝ := weight (rscore x wq wk h i j) (mask i j)

/-- The kernel's exponential is that real. -/
theorem expo_real (hm : ∀ i j, mask i j ≠ ⊤) (h : Fin 16) (i j : Fin 128) :
    Layer.expo (fun i d => (x i d : EReal)) mask
        (fun k d => (wq k d : EReal) * Ideal.ofBits .f32 0x3E000000#32) (fun k d => (wk k d : EReal)) h i j
      = (rexpo x mask wq wk h i j : EReal) := by
  have hq : (fun k d => (wq k d : EReal) * Ideal.ofBits .f32 0x3E000000#32)
      = fun k d => ((wq k d * (1 / 8) : ℝ) : EReal) := by
    funext k d
    rw [word_eighth, EReal.coe_mul]
  have hs : ∀ c, rproj x (fun k d => wq k d * (1 / 8)) i c = rproj x wq i c * (1 / 8) := fun c => by
    unfold rproj
    rw [Finset.sum_mul]
    exact Finset.sum_congr rfl fun d _ => by ring
  have hsum : ∑ u : Fin 64, proj (fun i d => (x i d : EReal)) (fun k d => ((wq k d * (1 / 8) : ℝ) : EReal)) i (col h u)
        * proj (fun i d => (x i d : EReal)) (fun k d => (wk k d : EReal)) j (col h u)
      = (rscore x wq wk h i j : EReal) := by
    unfold rscore
    rw [Finset.sum_div, ← coe_sum]
    refine Finset.sum_congr rfl fun u _ => ?_
    rw [proj_real x (fun k d => wq k d * (1 / 8)), proj_real, hs, ← EReal.coe_mul]
    exact congrArg Real.toEReal (by ring)
  unfold Layer.expo
  rw [hq, hsum, exp_masked _ (hm i j)]
  rfl

/-- The kernel's attention output over the reals. -/
def rcontext (h : Fin 16) (i : Fin 128) (u : Fin 64) : ℝ :=
  (∑ j : Fin 128, rexpo x mask wq wk h i j * rproj x wv j (col h u)) / ∑ j : Fin 128, rexpo x mask wq wk h i j

/-- The sum of a row of exponentials is positive, one of the row's mask entries not being minus infinity. -/
theorem sum_expo_pos (hk : ∀ i, ∃ j, mask i j ≠ ⊥) (h : Fin 16) (i : Fin 128) : 0 < ∑ j : Fin 128, rexpo x mask wq wk h i j := by
  obtain ⟨j, hj⟩ := hk i
  exact Finset.sum_pos' (fun j _ => weight_nonneg _ _) ⟨j, Finset.mem_univ _, weight_pos _ hj⟩

/-- The kernel's attention output is that real. -/
theorem context_real (hm : ∀ i j, mask i j ≠ ⊤) (hk : ∀ i, ∃ j, mask i j ≠ ⊥) (h : Fin 16) (i : Fin 128) (u : Fin 64) :
    Layer.context (fun i d => (x i d : EReal)) mask
        (fun k d => (wq k d : EReal) * Ideal.ofBits .f32 0x3E000000#32) (fun k d => (wk k d : EReal))
        (fun k d => (wv k d : EReal)) h i u
      = (rcontext x mask wq wk wv h i u : EReal) := by
  unfold Layer.context rcontext
  simp only [expo_real x mask wq wk hm, proj_real, ← EReal.coe_mul, coe_sum]
  exact div_real _ _ (sum_expo_pos x mask wq wk hk h i).ne'

/-- A projection of reals with a real bias is a real. -/
theorem biased_real (w : Fin 1024 → Fin 1024 → ℝ) (b : Fin 1024 → ℝ) (i : Fin 128) (c : Fin 1024) :
    biased (fun i d => (x i d : EReal)) (fun k d => (w k d : EReal)) (fun c => (b c : EReal)) i c
      = ((rproj x w i c + b c : ℝ) : EReal) := by
  unfold biased
  rw [proj_real, ← EReal.coe_add]

/-- A projection of reals with a zero bias is a real. -/
theorem biased_zero (w : Fin 1024 → Fin 1024 → ℝ) (i : Fin 128) (c : Fin 1024) :
    biased (fun i d => (x i d : EReal)) (fun k d => (w k d : EReal)) (fun _ => 0) i c = (rproj x w i c : EReal) := by
  unfold biased
  rw [proj_real, add_zero]

/-- What the key's bias adds to every score of row `i`. -/
def offset (h : Fin 16) (i : Fin 128) : ℝ := (∑ u : Fin 64, rproj x wq i (col h u) * bk (col h u)) / 8

/-- The reference's score is the score without the key's bias plus a number that depends on the row alone, plus the mask. -/
theorem score_real (h : Fin 16) (i j : Fin 128) :
    score (fun i d => (x i d : EReal)) mask (fun k d => (wq k d : EReal)) (fun k d => (wk k d : EReal))
        (fun _ => 0) (fun c => (bk c : EReal)) h i j
      = ((rscore x wq wk h i j + offset x wq bk h i : ℝ) : EReal) + mask i j := by
  unfold score
  simp only [biased_zero, biased_real, ← EReal.coe_mul, coe_sum]
  rw [word_eight, div_real _ _ (by norm_num)]
  refine congrArg (fun t : ℝ => (t : EReal) + mask i j) ?_
  unfold rscore offset
  simp only [mul_add, Finset.sum_add_distrib]
  ring

/-- The largest of some numbers none of which is infinity is not infinity, and if one of them is not minus infinity it is
    not minus infinity. -/
theorem fold_max_finite {ι : Type*} (s : Finset ι) (f : ι → EReal) (ht : ∀ k, f k ≠ ⊤) (hb : ∃ k ∈ s, f k ≠ ⊥) :
    ∃ r : ℝ, s.fold max ⊥ f = r := by
  have h1 : s.fold max ⊥ f < ⊤ := (Finset.fold_max_lt _).mpr ⟨bot_lt_top, fun k _ => lt_top_iff_ne_top.mpr (ht k)⟩
  obtain ⟨k, hks, hk⟩ := hb
  have h2 : ⊥ < s.fold max ⊥ f := (Finset.lt_fold_max _).mpr (Or.inr ⟨k, hks, bot_lt_iff_ne_bot.mpr hk⟩)
  exact ⟨_, (EReal.coe_toReal h1.ne h2.ne').symm⟩

/-- If the largest of some numbers is a real, none of them is infinity and one of them is not minus infinity. -/
theorem finite_of_fold_max {ι : Type*} (s : Finset ι) (f : ι → EReal) {r : ℝ} (h : s.fold max ⊥ f = r) :
    (∀ k ∈ s, f k ≠ ⊤) ∧ ∃ k ∈ s, f k ≠ ⊥ := by
  refine ⟨fun k hk => ((Finset.fold_max_lt _).mp (h ▸ EReal.coe_lt_top r)).2 k hk |>.ne, ?_⟩
  rcases (Finset.lt_fold_max _).mp (h ▸ EReal.bot_lt_coe r) with h0 | ⟨k, hk, h0⟩
  · exact absurd h0 (lt_irrefl _)
  · exact ⟨k, hk, h0.ne'⟩

/-- The peak of a row of scores is a real. -/
theorem peak_real (hm : ∀ i j, mask i j ≠ ⊤) (hk : ∀ i, ∃ j, mask i j ≠ ⊥) (h : Fin 16) (i : Fin 128) : ∃ r : ℝ,
    peak (fun i d => (x i d : EReal)) mask (fun k d => (wq k d : EReal)) (fun k d => (wk k d : EReal))
        (fun _ => 0) (fun c => (bk c : EReal)) h i = r := by
  unfold peak
  rw [max_bot_left]
  refine fold_max_finite _ _ (fun j => ?_) ?_
  · rw [score_real]
    exact EReal.add_ne_top (EReal.coe_ne_top _) (hm i j)
  · obtain ⟨j, hj⟩ := hk i
    refine ⟨j, Finset.mem_univ _, ?_⟩
    rw [score_real]
    exact fun h0 => (EReal.add_eq_bot_iff.mp h0).elim (EReal.coe_ne_bot _) hj

/-- The reference's attention output is the same real as the kernel's: what a row of scores has in common cancels in the
    softmax, and the quotient of sums is the sum of quotients. -/
theorem plain_context_real (hm : ∀ i j, mask i j ≠ ⊤) (hk : ∀ i, ∃ j, mask i j ≠ ⊥) (h : Fin 16) (i : Fin 128) (u : Fin 64) :
    context (fun i d => (x i d : EReal)) mask (fun k d => (wq k d : EReal)) (fun k d => (wk k d : EReal))
        (fun k d => (wv k d : EReal)) (fun _ => 0) (fun c => (bk c : EReal)) (fun _ => 0) h i u
      = (rcontext x mask wq wk wv h i u : EReal) := by
  obtain ⟨r, hr⟩ := peak_real x mask wq wk bk hm hk h i
  have he : ∀ j, expo (fun i d => (x i d : EReal)) mask (fun k d => (wq k d : EReal))
        (fun k d => (wk k d : EReal)) (fun _ => 0) (fun c => (bk c : EReal)) h i j
      = ((rexpo x mask wq wk h i j * Real.exp (offset x wq bk h i - r) : ℝ) : EReal) := fun j => by
    unfold expo
    rw [hr, score_real, exp_masked_shift _ _ _ (hm i j)]
    rfl
  have hS := sum_expo_pos x mask wq wk hk h i
  have hT := Real.exp_pos (offset x wq bk h i - r)
  unfold context share
  simp only [he, biased_zero, coe_sum]
  rw [← Finset.sum_mul]
  simp only [div_real _ _ (mul_pos hS hT).ne', ← EReal.coe_mul, coe_sum]
  refine congrArg Real.toEReal ?_
  unfold rcontext
  rw [Finset.sum_div]
  refine Finset.sum_congr rfl fun j _ => ?_
  rw [mul_div_mul_right _ _ hT.ne', div_mul_eq_mul_div]

/-- The layer's rows before normalisation over the reals. -/
def rhidden (i : Fin 128) (e : Fin 1024) : ℝ :=
  ∑ c : Fin 1024, rcontext x mask wq wk wv (head c) i (pos c) * wo e c + x i e

/-- The kernel's rows before normalisation are those reals. -/
theorem hidden_real (hm : ∀ i j, mask i j ≠ ⊤) (hk : ∀ i, ∃ j, mask i j ≠ ⊥) (i : Fin 128) : Layer.hidden (fun i d => (x i d : EReal)) mask
        (fun k d => (wq k d : EReal) * Ideal.ofBits .f32 0x3E000000#32) (fun k d => (wk k d : EReal))
        (fun k d => (wv k d : EReal)) (fun k d => (wo k d : EReal)) i
      = fun e => (rhidden x mask wq wk wv wo i e : EReal) := by
  funext e
  unfold Layer.hidden rhidden
  simp only [context_real x mask wq wk wv hm hk, ← EReal.coe_mul, coe_sum, ← EReal.coe_add]

/-- The reference's rows before normalisation are the same reals. -/
theorem plain_hidden_real (hm : ∀ i j, mask i j ≠ ⊤) (hk : ∀ i, ∃ j, mask i j ≠ ⊥) (i : Fin 128) : hidden (fun i d => (x i d : EReal)) mask
        (fun k d => (wq k d : EReal)) (fun k d => (wk k d : EReal)) (fun k d => (wv k d : EReal)) (fun k d => (wo k d : EReal))
        (fun _ => 0) (fun c => (bk c : EReal)) (fun _ => 0) (fun _ => 0) i
      = fun e => (rhidden x mask wq wk wv wo i e : EReal) := by
  funext e
  unfold hidden rhidden
  simp only [plain_context_real x mask wq wk wv bk hm hk, ← EReal.coe_mul, coe_sum, add_zero, ← EReal.coe_add]

end Attention

/-- The mean squared deviation is the mean square less the square of the mean. -/
theorem variance (y : Fin 1024 → ℝ) (u : ℝ) (hu : (∑ d : Fin 1024, y d) = 1024 * u) :
    (∑ d : Fin 1024, (y d - u) * (y d - u)) / 1024 = (∑ d : Fin 1024, y d * y d) / 1024 - u * u := by
  have h : ∑ d : Fin 1024, (y d - u) * (y d - u)
      = (∑ d : Fin 1024, y d * y d) - 2 * u * (∑ d : Fin 1024, y d) + 1024 * (u * u) := by
    rw [Finset.mul_sum, ← Finset.sum_sub_distrib]
    have hc : (1024 : ℝ) * (u * u) = ∑ _d : Fin 1024, u * u := by simp
    rw [hc, ← Finset.sum_add_distrib]
    exact Finset.sum_congr rfl fun d _ => by ring
  rw [h, hu]
  ring

/-- On a row of reals the kernel's normalisation is the reference's with scale one and shift zero. -/
theorem normed_real (y : Fin 1024 → ℝ) (e : Fin 1024) :
    Layer.normed (Ideal.ofBits .f32 0x3A800000#32) (Ideal.ofBits .f32 0x2B8CBCCC#32) (fun d => (y d : EReal)) e
      = normed (Ideal.ofBits .f32 0x2B8CBCCC#32) (fun _ => 1) (fun _ => 0) (fun d => (y d : EReal)) e := by
  obtain ⟨u, hu⟩ : ∃ u : ℝ, u = (∑ d : Fin 1024, y d) / 1024 := ⟨_, rfl⟩
  have hS : (∑ d : Fin 1024, y d) = 1024 * u := by rw [hu]; ring
  have hv := variance y u hS
  obtain ⟨v, hv'⟩ : ∃ v : ℝ, v = (∑ d : Fin 1024, (y d - u) * (y d - u)) / 1024 := ⟨_, rfl⟩
  have hv0 : 0 ≤ v := by
    rw [hv']
    exact div_nonneg (Finset.sum_nonneg fun d _ => mul_self_nonneg _) (by norm_num)
  have hpos : 0 < v + eps := add_pos_of_nonneg_of_pos hv0 eps_pos
  have hl : Layer.normed (Ideal.ofBits .f32 0x3A800000#32) (Ideal.ofBits .f32 0x2B8CBCCC#32) (fun d => (y d : EReal)) e
      = (((y e - u) * (Real.sqrt (v + eps))⁻¹ : ℝ) : EReal) := by
    unfold Layer.normed
    rw [word_n, word_eps]
    simp only [← EReal.coe_mul, coe_sum, ← EReal.coe_sub]
    have h1 : (∑ d : Fin 1024, y d) * (1 / 1024) = u := by rw [hu]; ring
    have h2 : (∑ d : Fin 1024, y d * y d) * (1 / 1024) - u * u = v := by rw [hv', hv]; ring
    rw [h1, h2, max_eq_left (EReal.coe_nonneg.mpr hv0), ← EReal.coe_add, Ideal.rsqrt_coe, if_neg (not_lt.mpr hpos.le),
      if_neg hpos.ne', ← EReal.coe_mul]
  have hm : mean (fun d => (y d : EReal)) = (u : EReal) := by
    unfold mean
    rw [coe_sum, word_1024, div_real _ _ (by norm_num), hu]
  have hr : normed (Ideal.ofBits .f32 0x2B8CBCCC#32) (fun _ => 1) (fun _ => 0) (fun d => (y d : EReal)) e
      = (((y e - u) / Real.sqrt (v + eps) : ℝ) : EReal) := by
    unfold normed
    rw [hm]
    simp only [← EReal.coe_mul, ← EReal.coe_sub]
    have hm2 : mean (fun d => (((y d - u) * (y d - u) : ℝ) : EReal)) = (v : EReal) := by
      unfold mean
      rw [coe_sum, word_1024, div_real _ _ (by norm_num), hv']
    rw [hm2, word_eps, ← EReal.coe_add, Ideal.sqrt_coe, if_neg (not_lt.mpr hpos.le),
      div_real _ _ (Real.sqrt_pos.mpr hpos).ne', one_mul, add_zero]
  rw [hl, hr, div_eq_mul_inv]

/-- On finite arguments, the mask's entries below infinity and no row of it minus infinity throughout, with
    the biases other than the key's zero, the scale one and the shift zero, the kernel's layer is
    the reference's. -/
theorem layer_real (x : Fin 128 → Fin 1024 → ℝ) (mask : Fin 128 → Fin 128 → EReal) (wq wk wv wo : Fin 1024 → Fin 1024 → ℝ)
    (hm : ∀ i j, mask i j ≠ ⊤) (hk : ∀ i, ∃ j, mask i j ≠ ⊥)
    (bk : Fin 1024 → ℝ) (i : Fin 128) (e : Fin 1024) :
    Layer.normed (Ideal.ofBits .f32 0x3A800000#32) (Ideal.ofBits .f32 0x2B8CBCCC#32)
        (Layer.hidden (fun i d => (x i d : EReal)) mask
          (fun k d => (wq k d : EReal) * Ideal.ofBits .f32 0x3E000000#32) (fun k d => (wk k d : EReal))
          (fun k d => (wv k d : EReal)) (fun k d => (wo k d : EReal)) i) e
      = normed (Ideal.ofBits .f32 0x2B8CBCCC#32) (fun _ => 1) (fun _ => 0)
        (hidden (fun i d => (x i d : EReal)) mask (fun k d => (wq k d : EReal))
          (fun k d => (wk k d : EReal)) (fun k d => (wv k d : EReal)) (fun k d => (wo k d : EReal)) (fun _ => 0)
          (fun c => (bk c : EReal)) (fun _ => 0) (fun _ => 0) i) e := by
  rw [hidden_real x mask wq wk wv wo hm hk, plain_hidden_real x mask wq wk wv wo bk hm hk, normed_real]

/-- The same of extended reals, none of which but the mask's is infinite. -/
theorem layer_finite (x : Fin 128 → Fin 1024 → EReal) (mask : Fin 128 → Fin 128 → EReal) (wq wk wv wo : Fin 1024 → Fin 1024 → EReal)
    (bq bk bv bo lw lb : Fin 1024 → EReal) (hx : ∀ i d, ∃ r : ℝ, x i d = r)
    (hm : ∀ i j, mask i j ≠ ⊤) (hk : ∀ i, ∃ j, mask i j ≠ ⊥)
    (hwq : ∀ k d, ∃ r : ℝ, wq k d = r) (hwk : ∀ k d, ∃ r : ℝ, wk k d = r) (hwv : ∀ k d, ∃ r : ℝ, wv k d = r)
    (hwo : ∀ k d, ∃ r : ℝ, wo k d = r) (hbk : ∀ c, ∃ r : ℝ, bk c = r) (hbq : ∀ c, bq c = 0) (hbv : ∀ c, bv c = 0)
    (hbo : ∀ c, bo c = 0) (hlw : ∀ c, lw c = 1) (hlb : ∀ c, lb c = 0) (i : Fin 128) (e : Fin 1024) :
    Layer.normed (Ideal.ofBits .f32 0x3A800000#32) (Ideal.ofBits .f32 0x2B8CBCCC#32)
        (Layer.hidden x mask (fun k d => wq k d * Ideal.ofBits .f32 0x3E000000#32) wk wv wo i) e
      = normed (Ideal.ofBits .f32 0x2B8CBCCC#32) lw lb (hidden x mask wq wk wv wo bq bk bv bo i) e := by
  choose x' hx using hx
  choose wq' hwq using hwq
  choose wk' hwk using hwk
  choose wv' hwv using hwv
  choose wo' hwo using hwo
  choose bk' hbk using hbk
  obtain rfl : x = fun i d => (x' i d : EReal) := funext fun i => funext fun d => hx i d
  obtain rfl : wq = fun k d => (wq' k d : EReal) := funext fun k => funext fun d => hwq k d
  obtain rfl : wk = fun k d => (wk' k d : EReal) := funext fun k => funext fun d => hwk k d
  obtain rfl : wv = fun k d => (wv' k d : EReal) := funext fun k => funext fun d => hwv k d
  obtain rfl : wo = fun k d => (wo' k d : EReal) := funext fun k => funext fun d => hwo k d
  obtain rfl : bk = fun c => (bk' c : EReal) := funext hbk
  obtain rfl : bq = fun _ => 0 := funext hbq
  obtain rfl : bv = fun _ => 0 := funext hbv
  obtain rfl : bo = fun _ => 0 := funext hbo
  obtain rfl : lw = fun _ => 1 := funext hlw
  obtain rfl : lb = fun _ => 0 := funext hlb
  exact layer_real x' mask wq' wk' wv' wo' hm hk bk' i e

end Cert.Plain
-- ==== Proof.ReferenceIdealLayer.lean ====
/- The reference's operations between its two row takes, read at a batch entry: the plain layer. -/
module

public import proofs.«01_k».proof.Proof.Gen.ReferenceIdeal.Read
public import proofs.«01_k».proof.Proof.PlainReal
public import Idealize.ShloMosaic.Lib.Pointwise
public import Idealize.ShloMosaic.Lib.ValueIdxCore

@[expose] public section

noncomputable section

namespace Cert.ReferenceIdeal.Hand

open Cert.ReferenceIdeal Cert.ReferenceIdeal.Gen Cert.ReferenceIdeal.Read
open Idealize.ShloMosaic Idealize.ShloMosaic.TcCoe
open Cert.Layer (col head pos proj)

variable (x0 : FVec Ideal S256x128x1024 .f32) (x1 : FVec Ideal S256x1x128x128 .f32) (x2 : IVec S128 32)
  (x3 : FVec Ideal S1024x1024 .f32) (x4 : FVec Ideal S1024 .f32) (x5 : FVec Ideal S1024x1024 .f32) (x6 : FVec Ideal S1024 .f32)
  (x7 : FVec Ideal S1024x1024 .f32) (x8 : FVec Ideal S1024 .f32) (x9 : FVec Ideal S1024x1024 .f32) (x10 : FVec Ideal S1024 .f32)
  (x11 : FVec Ideal S1024 .f32) (x12 : FVec Ideal S1024 .f32)

/-- A batch entry of an array of rows. -/
abbrev entry (y : FVec Ideal S256x128x1024 .f32) (r : Fin 256) (i : Fin 128) (d : Fin 1024) : EReal := y (ix3 r i d)

/-- The mask of a batch entry. -/
abbrev maskOf (y : FVec Ideal S256x1x128x128 .f32) (r : Fin 256) (i j : Fin 128) : EReal := y (ix4 r 0 i j)

/-- A matrix by row and column. -/
abbrev mat (w : FVec Ideal S1024x1024 .f32) (k d : Fin 1024) : EReal := w (ix2 k d)

/-- A vector by position. -/
abbrev vec (b : FVec Ideal S1024 .f32) (c : Fin 1024) : EReal := b (ix1 c)

/-- Two indices of rank four with the same coordinates are one. -/
theorem idx_ext₄ {a b c d : ℕ} {x y : (⟨4, ![a, b, c, d]⟩ : Shape).Idx} (h0 : (x 0).val = (y 0).val) (h1 : (x 1).val = (y 1).val)
    (h2 : (x 2).val = (y 2).val) (h3 : (x 3).val = (y 3).val) : x = y :=
  funext fun k => Fin.ext (by
    match k with
    | ⟨0, _⟩ => exact h0
    | ⟨1, _⟩ => exact h1
    | ⟨2, _⟩ => exact h2
    | ⟨3, _⟩ => exact h3)

/-- Two indices of rank three with the same coordinates are one. -/
theorem idx_ext₃ {a b c : ℕ} {x y : (⟨3, ![a, b, c]⟩ : Shape).Idx} (h0 : (x 0).val = (y 0).val) (h1 : (x 1).val = (y 1).val)
    (h2 : (x 2).val = (y 2).val) : x = y :=
  funext fun k => Fin.ext (by
    match k with
    | ⟨0, _⟩ => exact h0
    | ⟨1, _⟩ => exact h1
    | ⟨2, _⟩ => exact h2)

/-- The reference's projection of the rows `y`, split into heads, at an entry, a head, a row and a column. -/
def heads (y : FVec Ideal S256x128x1024 .f32) (w : FVec Ideal S1024x1024 .f32) (b : FVec Ideal S1024 .f32) :
    FVec Ideal S256x16x128x64 .f32 :=
  transpose S256x16x128x64 [0, 2, 1, 3] (shapeCast _ (addf
    (Host.dotGeneral dot_S256x128x1024_S1024x1024_S256x128x1024_2_0_01_1_n_n none y
      (transpose S1024x1024 [1, 0] w transposes_S1024x1024_S1024x1024_1_0))
    (broadcastInDim S256x128x1024 ![0, 1, 2] bcast_S1x1x1024_S256x128x1024_0_1_2
      (broadcastInDim S1x1x1024 ![2] bcast_S1024_S1x1x1024_2 b)))
    shapeCasts_S256x128x1024_S256x128x16x64) transposes_S256x128x16x64_S256x16x128x64_0_2_1_3

/-- A projection split into heads is the biased projection at the head's column. -/
theorem heads_apply (y : FVec Ideal S256x128x1024 .f32) (w : FVec Ideal S1024x1024 .f32) (b : FVec Ideal S1024 .f32)
    (r : Fin 256) (h : Fin 16) (i : Fin 128) (u : Fin 64) :
    heads y w b (ix4 r h i u) = Plain.biased (entry y r) (mat w) (vec b) i (col h u) := by
  have hc : (⟨h.val * 64 + u.val, by omega⟩ : Fin 1024) = col h u := Fin.ext (by simp only [col]; omega)
  have e : heads y w b (ix4 r h i u) = ∑ d : Fin 1024, y (ix3 r i d) * w (ix2 (⟨h.val * 64 + u.val, by omega⟩ : Fin 1024) d)
      + b (ix1 (⟨h.val * 64 + u.val, by omega⟩ : Fin 1024)) := by
    pointwise [heads]
  rw [e, hc]
  rfl

/-- The queries. -/
theorem v11_eq : val_main_v11 (F := Ideal) x0 x2 x3 x4 = heads (val_main_v4 (F := Ideal) x0 x2) x3 x4 := rfl

/-- The keys. -/
theorem v18_eq : val_main_v18 (F := Ideal) x0 x2 x5 x6 = heads (val_main_v4 (F := Ideal) x0 x2) x5 x6 := rfl

/-- The values. -/
theorem v25_eq : val_main_v25 (F := Ideal) x0 x2 x7 x8 = heads (val_main_v4 (F := Ideal) x0 x2) x7 x8 := rfl

/-- The scores. -/
theorem v30_apply (r : Fin 256) (h : Fin 16) (i j : Fin 128) : val_main_v30 (F := Ideal) x0 x1 x2 x3 x4 x5 x6 (ix4 r h i j)
    = Plain.score (entry (val_main_v4 (F := Ideal) x0 x2) r) (maskOf x1 r) (mat x3) (mat x5) (vec x4) (vec x6) h i j := by
  have e : val_main_v30 (F := Ideal) x0 x1 x2 x3 x4 x5 x6 (ix4 r h i j)
      = Ideal.div (∑ u : Fin 64, val_main_v11 (F := Ideal) x0 x2 x3 x4 (ix4 r h i u) * val_main_v18 (F := Ideal) x0 x2 x5 x6 (ix4 r h j u))
        (Ideal.ofBits .f32 0x41000000#32) + x1 (ix4 r 0 i j) := by
    pointwise [val_main_v30, val_main_v29, val_main_v28, val_main_v27, val_main_v26, val_main_cst]
  rw [e, v11_eq, v18_eq]
  simp only [heads_apply]
  rfl

/-- The largest element along the last axis. -/
theorem reduce_max_apply (y : FVec Ideal S256x16x128x128 .f32) (r : Fin 256) (h : Fin 16) (i : Fin 128) :
    Host.reduce FloatOps.maximumf y (constant (F := Ideal) S_ .f32 0xFF800000#32) reducesTo_S256x16x128x128_S256x16x128_d3 h_S_
      (ix3 r h i) = (Finset.univ : Finset (Fin 128)).fold max ⊥ (fun k => y (ix4 r h i k)) := by
  have hr : S256x16x128x128.Reduces [3] S256x16x128 := by decide
  rw [Host.reduce_eq_fold_single FloatOps.maximumf _ _ _ hr]
  have hb : constant (F := Ideal) S_ .f32 0xFF800000#32 (Shape.Idx.first h_S_) = (⊥ : EReal) := Plain.word_bot
  have hf : (y ∘ hr.lift (ix3 r h i)) = fun k : Fin 128 => y (ix4 r h i k) :=
    funext fun k => congrArg y (idx_ext₄ rfl rfl rfl rfl)
  rw [hb, hf]
  rfl

/-- The row maxima. -/
theorem v33_apply (r : Fin 256) (h : Fin 16) (i : Fin 128) : val_main_v33 (F := Ideal) x0 x1 x2 x3 x4 x5 x6 (ix3 r h i)
    = Plain.peak (entry (val_main_v4 (F := Ideal) x0 x2) r) (maskOf x1 r) (mat x3) (mat x5) (vec x4) (vec x6) h i := by
  have e : val_main_v33 (F := Ideal) x0 x1 x2 x3 x4 x5 x6 (ix3 r h i)
      = max (Ideal.ofBits .f32 0xFF800000#32) (val_main_v31 (F := Ideal) x0 x1 x2 x3 x4 x5 x6 (ix3 r h i)) := by
    rw [val_main_v33_apply, val_main_v32_apply, val_main_cst_1_apply, Ideal.ofBits_def, Ideal.maximumf_def]
  have e' : val_main_v31 (F := Ideal) x0 x1 x2 x3 x4 x5 x6 (ix3 r h i) = (Finset.univ : Finset (Fin 128)).fold max ⊥
      (fun k => val_main_v30 (F := Ideal) x0 x1 x2 x3 x4 x5 x6 (ix4 r h i k)) := by
    unfold val_main_v31 val_main_cst_0
    exact reduce_max_apply _ r h i
  rw [e, e', Plain.word_bot]
  unfold Plain.peak
  simp only [v30_apply]

/-- The exponentials. -/
theorem v37_apply (r : Fin 256) (h : Fin 16) (i j : Fin 128) : val_main_v37 (F := Ideal) x0 x1 x2 x3 x4 x5 x6 (ix4 r h i j)
    = Plain.expo (entry (val_main_v4 (F := Ideal) x0 x2) r) (maskOf x1 r) (mat x3) (mat x5) (vec x4) (vec x6) h i j := by
  have e : val_main_v37 (F := Ideal) x0 x1 x2 x3 x4 x5 x6 (ix4 r h i j)
      = Ideal.exp (val_main_v30 (F := Ideal) x0 x1 x2 x3 x4 x5 x6 (ix4 r h i j) - val_main_v33 (F := Ideal) x0 x1 x2 x3 x4 x5 x6 (ix3 r h i)) := by
    pointwise [val_main_v37, val_main_v36, val_main_v35, val_main_v34]
  rw [e, v30_apply, v33_apply]
  rfl

/-- The softmax. -/
theorem v41_apply (r : Fin 256) (h : Fin 16) (i j : Fin 128) : val_main_v41 (F := Ideal) x0 x1 x2 x3 x4 x5 x6 (ix4 r h i j)
    = Plain.share (entry (val_main_v4 (F := Ideal) x0 x2) r) (maskOf x1 r) (mat x3) (mat x5) (vec x4) (vec x6) h i j := by
  have e : val_main_v41 (F := Ideal) x0 x1 x2 x3 x4 x5 x6 (ix4 r h i j)
      = Ideal.div (val_main_v37 (F := Ideal) x0 x1 x2 x3 x4 x5 x6 (ix4 r h i j))
        (∑ k : Fin 128, val_main_v37 (F := Ideal) x0 x1 x2 x3 x4 x5 x6 (ix4 r h i k)) := by
    pointwise [val_main_v41, val_main_v40, val_main_v39, val_main_v38, val_main_cst_2]
  rw [e]
  simp only [v37_apply]
  rfl

/-- The attention outputs. -/
theorem v42_apply (r : Fin 256) (h : Fin 16) (i : Fin 128) (u : Fin 64) :
    val_main_v42 (F := Ideal) x0 x1 x2 x3 x4 x5 x6 x7 x8 (ix4 r h i u)
      = Plain.context (entry (val_main_v4 (F := Ideal) x0 x2) r) (maskOf x1 r) (mat x3) (mat x5) (mat x7) (vec x4) (vec x6) (vec x8) h i u := by
  have e : val_main_v42 (F := Ideal) x0 x1 x2 x3 x4 x5 x6 x7 x8 (ix4 r h i u)
      = ∑ j : Fin 128, val_main_v41 (F := Ideal) x0 x1 x2 x3 x4 x5 x6 (ix4 r h i j) * val_main_v25 (F := Ideal) x0 x2 x7 x8 (ix4 r h j u) := by
    pointwise [val_main_v42]
  rw [e, v25_eq]
  simp only [v41_apply, heads_apply]
  rfl

/-- The rows before normalisation. -/
theorem v50_apply (r : Fin 256) (i : Fin 128) (e : Fin 1024) :
    val_main_v50 (F := Ideal) x0 x1 x2 x3 x4 x5 x6 x7 x8 x9 x10 (ix3 r i e)
      = Plain.hidden (entry (val_main_v4 (F := Ideal) x0 x2) r) (maskOf x1 r) (mat x3) (mat x5) (mat x7) (mat x9) (vec x4) (vec x6) (vec x8)
        (vec x10) i e := by
  have h : val_main_v50 (F := Ideal) x0 x1 x2 x3 x4 x5 x6 x7 x8 x9 x10 (ix3 r i e)
      = ∑ c : Fin 1024, val_main_v42 (F := Ideal) x0 x1 x2 x3 x4 x5 x6 x7 x8 (ix4 r (head c) i (pos c)) * x9 (ix2 e c) + x10 (ix1 e)
        + val_main_v4 (F := Ideal) x0 x2 (ix3 r i e) := by
    pointwise [val_main_v50, val_main_v49, val_main_v48, val_main_v47, val_main_v46, val_main_v45, val_main_v44, val_main_v43,
      head, pos]
  rw [h]
  simp only [v42_apply]
  rfl

/-- The normalised rows. -/
theorem v74_apply (r : Fin 256) (i : Fin 128) (e : Fin 1024) :
    val_main_v74 (F := Ideal) x0 x1 x2 x3 x4 x5 x6 x7 x8 x9 x10 x11 x12 (ix3 r i e)
      = Plain.normed (Ideal.ofBits .f32 0x2B8CBCCC#32) (vec x11) (vec x12)
        (Plain.hidden (entry (val_main_v4 (F := Ideal) x0 x2) r) (maskOf x1 r) (mat x3) (mat x5) (mat x7) (mat x9) (vec x4) (vec x6) (vec x8)
          (vec x10) i) e := by
  have h : val_main_v74 (F := Ideal) x0 x1 x2 x3 x4 x5 x6 x7 x8 x9 x10 x11 x12 (ix3 r i e)
      = Plain.normed (Ideal.ofBits .f32 0x2B8CBCCC#32) (vec x11) (vec x12)
        (fun d => val_main_v50 (F := Ideal) x0 x1 x2 x3 x4 x5 x6 x7 x8 x9 x10 (ix3 r i d)) e := by
    pointwise [val_main_v74, val_main_v73, val_main_v72, val_main_v71, val_main_v70, val_main_v69, val_main_v68, val_main_v67,
      val_main_v66, val_main_v65, val_main_v64, val_main_v63, val_main_v62, val_main_v61, val_main_v60, val_main_v59, val_main_v58,
      val_main_v57, val_main_v56, val_main_v55, val_main_v54, val_main_v53, val_main_v52, val_main_v51, val_main_cst_3,
      val_main_cst_4, val_main_cst_5, val_main_cst_6, val_main_cst_7, Plain.normed, Plain.mean, vec]
  rw [h]
  exact congrArg (fun y => Plain.normed _ (vec x11) (vec x12) y e) (funext fun d => v50_apply x0 x1 x2 x3 x4 x5 x6 x7 x8 x9 x10 r i d)

end Cert.ReferenceIdeal.Hand
-- ==== Proof.ReferenceIdealRun.lean ====
/- The run of the reference, its result read at an index. -/
module

public import proofs.«01_k».proof.Proof.Gen.ReferenceIdeal.Run
public import proofs.«01_k».proof.Proof.ReferenceIdealTake
public import proofs.«01_k».proof.Proof.ReferenceIdealLayer
public import proofs.«01_k».proof.Proof.Argsort

@[expose] public section

noncomputable section

namespace Cert.ReferenceIdeal.Hand

open Cert.ReferenceIdeal Cert.ReferenceIdeal.Gen Cert.ReferenceIdeal.Read
open Idealize.ShloMosaic Idealize.ShloMosaic.TcCoe

variable (x0 : FVec Ideal S256x128x1024 .f32) (x1 : FVec Ideal S256x1x128x128 .f32) (x2 : IVec S128 32)
  (x3 : FVec Ideal S1024x1024 .f32) (x4 : FVec Ideal S1024 .f32) (x5 : FVec Ideal S1024x1024 .f32) (x6 : FVec Ideal S1024 .f32)
  (x7 : FVec Ideal S1024x1024 .f32) (x8 : FVec Ideal S1024 .f32) (x9 : FVec Ideal S1024x1024 .f32) (x10 : FVec Ideal S1024 .f32)
  (x11 : FVec Ideal S1024 .f32) (x12 : FVec Ideal S1024 .f32)

/-- The cluster ids, once for each half of the batch. -/
def ids : IVec S256 32 := concatenate S256 0 [⟨S128, x2⟩, ⟨S128, x2⟩] concatenates_S128_S128_S256_d0

/-- The first row numbers: the argsort of the cluster ids. -/
theorem v1_eq : val_main_v1 (F := Ideal) x2 = Argsort.argsort (n := 256) (ids x2) := rfl

/-- The last row numbers: the argsort of the argsort. -/
theorem v75_eq : val_main_v75 (F := Ideal) x2 = Argsort.argsort (n := 256) (Argsort.argsort (n := 256) (ids x2)) := rfl

/-- The first row numbers at an index. -/
theorem v1_apply (r : Fin 256) : val_main_v1 (F := Ideal) x2 (ix1 r) = BitVec.ofNat 32 (Argsort.src (n := 256) (ids x2) r).val :=
  (congrFun (v1_eq x2) _).trans (Argsort.argsort_apply (n := 256) (ids x2) r)

/-- The last row numbers at an index. -/
theorem v75_apply (n : Fin 256) : val_main_v75 (F := Ideal) x2 (ix1 n)
    = BitVec.ofNat 32 (Argsort.src (n := 256) (Argsort.argsort (n := 256) (ids x2)) n).val :=
  (congrFun (v75_eq x2) _).trans (Argsort.argsort_apply (n := 256) (Argsort.argsort (n := 256) (ids x2)) n)

/-- The first take. -/
theorem v3_eq : val_main_v3 (F := Ideal) x0 x2 = takeRows (val_main_v2 (F := Ideal) x0) (val_main_v1 (F := Ideal) x2) := rfl

/-- The last take. -/
theorem v77_eq : val_main_v77 (F := Ideal) x0 x1 x2 x3 x4 x5 x6 x7 x8 x9 x10 x11 x12
    = takeRows (val_main_v76 (F := Ideal) x0 x1 x2 x3 x4 x5 x6 x7 x8 x9 x10 x11 x12) (val_main_v75 (F := Ideal) x2) := rfl

/-- Position `(i, d)` of a batch entry flattened to a row. -/
def flat (i : Fin 128) (d : Fin 1024) : Fin 131072 := ⟨i.val * 1024 + d.val, by omega⟩

/-- The rows of the array flattened. -/
theorem v2_apply (r : Fin 256) (i : Fin 128) (d : Fin 1024) :
    val_main_v2 (F := Ideal) x0 (ix2 r (flat i d)) = x0 (ix3 r i d) := by
  rw [val_main_v2_apply]
  refine congrArg x0 (idx_ext₃ ?_ ?_ ?_)
  · show (r.val * 131072 + (i.val * 1024 + d.val)) / 131072 = r.val
    omega
  · show (r.val * 131072 + (i.val * 1024 + d.val)) / 1024 % 128 = i.val
    omega
  · show (r.val * 131072 + (i.val * 1024 + d.val)) % 1024 = d.val
    omega

/-- The entry in sorted position `r` is the entry that sorts there. -/
theorem v4_apply (r : Fin 256) (i : Fin 128) (d : Fin 1024) :
    val_main_v4 (F := Ideal) x0 x2 (ix3 r i d) = x0 (ix3 (Argsort.src (n := 256) (ids x2) r) i d) := by
  have e : idx_main_v4 (ix3 r i d) = ix2 r (flat i d) := by
    refine Shape.idx_ext₂ ?_ ?_
    · show ((r.val * 128 + i.val) * 1024 + d.val) / 131072 = r.val
      omega
    · show ((r.val * 128 + i.val) * 1024 + d.val) % 131072 = i.val * 1024 + d.val
      omega
  rw [val_main_v4_apply, e, v3_eq, takeRows_apply _ _ _ (v1_apply x2)]
  exact v2_apply x0 _ i d

/-- The sorted position of batch entry `n`. -/
def place (n : Fin 256) : Fin 256 := Argsort.src (n := 256) (Argsort.argsort (n := 256) (ids x2)) n

/-- The result at batch entry `n` is the layer's row at the entry's sorted position. -/
theorem v78_apply (n : Fin 256) (i : Fin 128) (e : Fin 1024) :
    val_main_v78 (F := Ideal) x0 x1 x2 x3 x4 x5 x6 x7 x8 x9 x10 x11 x12 (ix3 n i e)
      = val_main_v74 (F := Ideal) x0 x1 x2 x3 x4 x5 x6 x7 x8 x9 x10 x11 x12 (ix3 (place x2 n) i e) := by
  have e1 : idx_main_v78 (ix3 n i e) = ix2 n (flat i e) := by
    refine Shape.idx_ext₂ ?_ ?_
    · show ((n.val * 128 + i.val) * 1024 + e.val) / 131072 = n.val
      omega
    · show ((n.val * 128 + i.val) * 1024 + e.val) % 131072 = i.val * 1024 + e.val
      omega
  rw [val_main_v78_apply, e1, v77_eq, takeRows_apply _ _ (place x2) (v75_apply x2),
    val_main_v76_apply]
  refine congrArg _ (idx_ext₃ ?_ ?_ ?_)
  · show ((place x2 n).val * 131072 + (i.val * 1024 + e.val)) / 131072 = (place x2 n).val
    omega
  · show ((place x2 n).val * 131072 + (i.val * 1024 + e.val)) / 1024 % 128 = i.val
    omega
  · show ((place x2 n).val * 131072 + (i.val * 1024 + e.val)) % 1024 = e.val
    omega

/-- The result at batch entry `n`: the plain layer of the entry itself, with the mask of its sorted position. -/
theorem result_apply (n : Fin 256) (i : Fin 128) (e : Fin 1024) :
    val_main_v78 (F := Ideal) x0 x1 x2 x3 x4 x5 x6 x7 x8 x9 x10 x11 x12 (ix3 n i e)
      = Plain.normed (Ideal.ofBits .f32 0x2B8CBCCC#32) (vec x11) (vec x12)
        (Plain.hidden (entry x0 n) (maskOf x1 (place x2 n)) (mat x3) (mat x5) (mat x7) (mat x9) (vec x4) (vec x6) (vec x8)
          (vec x10) i) e := by
  have h : entry (val_main_v4 (F := Ideal) x0 x2) (place x2 n) = entry x0 n := by
    funext i d
    refine (v4_apply x0 x2 (place x2 n) i d).trans ?_
    exact congrArg (fun r => x0 (ix3 r i d)) (Argsort.src_src (n := 256) (by norm_num) (ids x2) n)
  rw [v78_apply, v74_apply, h]

end Cert.ReferenceIdeal.Hand
-- ==== Proof.Agree.lean ====
/- The reference's result array is the kernel's, given the precondition. -/
module

public import proofs.«01_k».proof.Defs
public import proofs.«01_k».proof.Proof.Gen.Pre_plain_layer
public import proofs.«01_k».proof.Proof.KernelIdealRun
public import proofs.«01_k».proof.Proof.ReferenceIdealRun

@[expose] public section

noncomputable section

namespace Cert.Agree

open Idealize.ShloMosaic Idealize.ShloMosaic.TcCoe
open Cert.KernelIdeal (nD τ sig)

/-- The word of infinity. -/
theorem word_top : Ideal.ofBits .f32 0x7F800000#32 = ⊤ := by
  simp [Ideal.ofBits, Ideal.ieee]

/-- An extended real whose absolute value lies below infinity is a real. -/
theorem real_of_abs_lt (x : EReal) (h : max x (-x) < ⊤) : ∃ r : ℝ, x = r := by
  induction x using EReal.rec with
  | bot => simp at h
  | coe r => exact ⟨r, rfl⟩
  | top => simp at h

/-- A test whose bit is one holds. -/
theorem of_bit {b : Bool} (h : BitVec.ofBool b = 1#1) : b = true := by
  cases b
  · exact absurd h (by decide)
  · rfl

/-- An array that passes the test for finite numbers holds reals. -/
theorem real_of_test {s t : Shape} (x : FVec Ideal s .f32) (d : Fin t.rank → Fin s.rank) (hb : t.BroadcastsInDim s d)
    (h : cmpf .olt (Host.absf x) (broadcastInDim s d hb (constant (F := Ideal) t .f32 0x7F800000#32)) = fun _ => 1#1) (i : s.Idx) :
    ∃ r : ℝ, (x i : EReal) = r := by
  have e : Ideal.cmp .olt (max (x i) (-(x i))) (Ideal.ofBits .f32 0x7F800000#32) = 1#1 := congrFun h i
  rw [word_top] at e
  exact real_of_abs_lt _ (of_decide_eq_true (of_bit e))

/-- An array that passes the test for equality with a constant holds that constant. -/
theorem eq_of_test {s t : Shape} (x : FVec Ideal s .f32) (b : BitVec 32) (d : Fin t.rank → Fin s.rank) (hb : t.BroadcastsInDim s d)
    (h : cmpf .oeq x (broadcastInDim s d hb (constant (F := Ideal) t .f32 b)) = fun _ => 1#1) (i : s.Idx) :
    (x i : EReal) = Ideal.ofBits .f32 b := by
  have e : Ideal.cmp .oeq (x i) (Ideal.ofBits .f32 b) = 1#1 := congrFun h i
  exact of_decide_eq_true (of_bit e)

/-- The largest entry of a row of a mask. -/
theorem row_max_apply (y : FVec Ideal Cert.Pre_plain_layer.S256x1x128x128 .f32) (n : Fin 256) (i : Fin 128) :
    Host.reduce FloatOps.maximumf y (constant (F := Ideal) Cert.Pre_plain_layer.S_ .f32 0xFF800000#32)
        Cert.Pre_plain_layer.Facts.reducesTo_S256x1x128x128_S256x1x128_d3 Cert.Pre_plain_layer.Facts.h_S_ (ix3 n 0 i)
      = (Finset.univ : Finset (Fin 128)).fold max ⊥ (fun k => y (ix4 n 0 i k)) := by
  have hr : Cert.Pre_plain_layer.S256x1x128x128.Reduces [3] Cert.Pre_plain_layer.S256x1x128 := by decide
  rw [Host.reduce_eq_fold_single FloatOps.maximumf _ _ _ hr]
  have hb : constant (F := Ideal) Cert.Pre_plain_layer.S_ .f32 0xFF800000#32
      (Shape.Idx.first Cert.Pre_plain_layer.Facts.h_S_) = (⊥ : EReal) := Cert.Plain.word_bot
  have hf : (y ∘ hr.lift (ix3 n 0 i)) = fun k : Fin 128 => y (ix4 n 0 i k) :=
    funext fun k => congrArg y (Cert.ReferenceIdeal.Hand.idx_ext₄ rfl rfl rfl rfl)
  rw [hb, hf]
  rfl

/-- A mask whose rows' largest entries pass the test for finite numbers holds no infinity, and no row of it is minus
    infinity throughout. -/
theorem mask_of_test (y : FVec Ideal Cert.Pre_plain_layer.S256x1x128x128 .f32)
    (h : cmpf .olt (Host.absf (Host.reduce FloatOps.maximumf y (constant (F := Ideal) Cert.Pre_plain_layer.S_ .f32 0xFF800000#32)
        Cert.Pre_plain_layer.Facts.reducesTo_S256x1x128x128_S256x1x128_d3 Cert.Pre_plain_layer.Facts.h_S_))
      (broadcastInDim Cert.Pre_plain_layer.S256x1x128 ![] Cert.Pre_plain_layer.Facts.bcast_S_S256x1x128
        (constant (F := Ideal) Cert.Pre_plain_layer.S_ .f32 0x7F800000#32)) = fun _ => 1#1) (n : Fin 256) (i : Fin 128) :
    (∀ j, (y (ix4 n 0 i j) : EReal) ≠ ⊤) ∧ ∃ j, (y (ix4 n 0 i j) : EReal) ≠ ⊥ := by
  obtain ⟨r, hr⟩ := real_of_test _ _ _ h (ix3 n 0 i)
  obtain ⟨h1, j, -, h2⟩ := Cert.Plain.finite_of_fold_max _ _ ((row_max_apply y n i).symm.trans hr)
  exact ⟨fun j => h1 j (Finset.mem_univ j), j, h2⟩

variable (m : (ℓ : Loc nD τ sig) → Buf (Elt Ideal) ℓ)

/-- The kernel's result array is the reference's of the same arguments. -/
theorem results_agree (hp : Cert.Pre_KernelIdeal_plain_layer m) (c : Dev nD) :
    Cert.ReferenceIdeal.Read.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      = Cert.KernelIdeal.Hand.resultArr m c := by
  obtain ⟨h0, h1, h3, h5, h6, h7, h9, h4, h8, h10, h11, h12⟩ := hp c
  have hc : c = 0 := Subsingleton.elim _ _
  subst hc
  funext x
  have hx : x = ix3 (x 0) (x 1) (x 2) := Cert.ReferenceIdeal.Hand.idx_ext₃ rfl rfl rfl
  refine (congrArg _ hx).trans ((Cert.ReferenceIdeal.Hand.result_apply _ _ _ _ _ _ _ _ _ _ _ _ _ (x 0) (x 1) (x 2)).trans ?_)
  refine Eq.trans ?_ (Cert.KernelIdeal.Hand.result_eq m 0 (x 0) (x 1) (x 2)).symm
  refine (Cert.Plain.layer_finite _ _ _ _ _ _ _ _ _ _ _ _ ?_ ?_ ?_ ?_ ?_ ?_ ?_ ?_ ?_ ?_ ?_ ?_ ?_ (x 1) (x 2)).symm
  · exact fun i d => real_of_test _ _ _ h0 _
  · exact fun i j => (mask_of_test _ h1 _ i).1 j
  · exact fun i => (mask_of_test _ h1 _ i).2
  · exact fun k d => real_of_test _ _ _ h3 _
  · exact fun k d => real_of_test _ _ _ h5 _
  · exact fun k d => real_of_test _ _ _ h7 _
  · exact fun k d => real_of_test _ _ _ h9 _
  · exact fun k => real_of_test _ _ _ h6 _
  · exact fun k => (eq_of_test _ _ _ _ h4 _).trans Ideal.ofBits_zero_f32
  · exact fun k => (eq_of_test _ _ _ _ h8 _).trans Ideal.ofBits_zero_f32
  · exact fun k => (eq_of_test _ _ _ _ h10 _).trans Ideal.ofBits_zero_f32
  · exact fun k => (eq_of_test _ _ _ _ h11 _).trans Ideal.ofBits_one_f32
  · exact fun k => (eq_of_test _ _ _ _ h12 _).trans Ideal.ofBits_zero_f32

/-- The reference's result array, from arguments equal to the kernel's. -/
theorem reference_result (m' : (ℓ : Loc Cert.ReferenceIdeal.nD Cert.ReferenceIdeal.τ Cert.ReferenceIdeal.sig) → Buf (Elt Ideal) ℓ)
    (hp : Cert.Pre_KernelIdeal_plain_layer m) (hm : ∀ c : Dev nD,
      m' ((c.tc : Thread Cert.ReferenceIdeal.nD Cert.ReferenceIdeal.τ).loc Cert.ReferenceIdeal.main_arg0) = m ((c.tc : Thread nD τ).loc Cert.KernelIdeal.main_arg0)
      ∧ m' ((c.tc : Thread Cert.ReferenceIdeal.nD Cert.ReferenceIdeal.τ).loc Cert.ReferenceIdeal.main_arg1) = m ((c.tc : Thread nD τ).loc Cert.KernelIdeal.main_arg1)
      ∧ m' ((c.tc : Thread Cert.ReferenceIdeal.nD Cert.ReferenceIdeal.τ).loc Cert.ReferenceIdeal.main_arg2) = m ((c.tc : Thread nD τ).loc Cert.KernelIdeal.main_arg2)
      ∧ m' ((c.tc : Thread Cert.ReferenceIdeal.nD Cert.ReferenceIdeal.τ).loc Cert.ReferenceIdeal.main_arg3) = m ((c.tc : Thread nD τ).loc Cert.KernelIdeal.main_arg3)
      ∧ m' ((c.tc : Thread Cert.ReferenceIdeal.nD Cert.ReferenceIdeal.τ).loc Cert.ReferenceIdeal.main_arg4) = m ((c.tc : Thread nD τ).loc Cert.KernelIdeal.main_arg4)
      ∧ m' ((c.tc : Thread Cert.ReferenceIdeal.nD Cert.ReferenceIdeal.τ).loc Cert.ReferenceIdeal.main_arg5) = m ((c.tc : Thread nD τ).loc Cert.KernelIdeal.main_arg5)
      ∧ m' ((c.tc : Thread Cert.ReferenceIdeal.nD Cert.ReferenceIdeal.τ).loc Cert.ReferenceIdeal.main_arg6) = m ((c.tc : Thread nD τ).loc Cert.KernelIdeal.main_arg6)
      ∧ m' ((c.tc : Thread Cert.ReferenceIdeal.nD Cert.ReferenceIdeal.τ).loc Cert.ReferenceIdeal.main_arg7) = m ((c.tc : Thread nD τ).loc Cert.KernelIdeal.main_arg7)
      ∧ m' ((c.tc : Thread Cert.ReferenceIdeal.nD Cert.ReferenceIdeal.τ).loc Cert.ReferenceIdeal.main_arg8) = m ((c.tc : Thread nD τ).loc Cert.KernelIdeal.main_arg8)
      ∧ m' ((c.tc : Thread Cert.ReferenceIdeal.nD Cert.ReferenceIdeal.τ).loc Cert.ReferenceIdeal.main_arg9) = m ((c.tc : Thread nD τ).loc Cert.KernelIdeal.main_arg9)
      ∧ m' ((c.tc : Thread Cert.ReferenceIdeal.nD Cert.ReferenceIdeal.τ).loc Cert.ReferenceIdeal.main_arg10) = m ((c.tc : Thread nD τ).loc Cert.KernelIdeal.main_arg10)
      ∧ m' ((c.tc : Thread Cert.ReferenceIdeal.nD Cert.ReferenceIdeal.τ).loc Cert.ReferenceIdeal.main_arg11) = m ((c.tc : Thread nD τ).loc Cert.KernelIdeal.main_arg11)
      ∧ m' ((c.tc : Thread Cert.ReferenceIdeal.nD Cert.ReferenceIdeal.τ).loc Cert.ReferenceIdeal.main_arg12) = m ((c.tc : Thread nD τ).loc Cert.KernelIdeal.main_arg12))
    (c : Dev nD) : Cert.ReferenceIdeal.Read.val_main_v78 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      = Cert.KernelIdeal.Hand.resultArr m c := by
  obtain ⟨e0, e1, e2, e3, e4, e5, e6, e7, e8, e9, e10, e11, e12⟩ := hm c
  refine Eq.trans ?_ (results_agree m hp c)
  exact congr (congr (congr (congr (congr (congr (congr (congr (congr (congr (congr (congr (congrArg (Cert.ReferenceIdeal.Read.val_main_v78 (F := Ideal)) e0) e1) e2) e3) e4) e5) e6) e7) e8) e9) e10) e11) e12

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_plain_layer
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelTable
public import proofs.«01_k».proof.Proof.KernelIdealFrame
public import proofs.«01_k».proof.Proof.KernelIdealTable
public import proofs.«01_k».proof.Proof.Agree
public import Idealize.ShloMosaic.Adequacy
public import Idealize.ShloMosaic.Init

@[expose] public section

noncomputable section

namespace Cert.Proof

open Idealize.ShloMosaic Idealize.SL.Sem

/-- The kernel ends on every memory, its arguments unchanged and its counters at zero. -/
theorem frame_kernel : Cert.quiescent_Kernel := fun m ρ _ => Cert.Kernel.Hand.frame m ρ (Cert.Kernel.Hand.ok m)

/-- The same of the kernel read on extended reals. -/
theorem frame_kernelIdeal : Cert.quiescent_KernelIdeal := fun m ρ _ =>
  Cert.KernelIdeal.Hand.frame m ρ (Cert.KernelIdeal.Hand.ok m)

/-- The same of the reference, which declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments that satisfy the precondition and that both programs share, both end with one result array and leave
    their arguments unchanged. -/
theorem algebraic : Cert.algebraic_KernelIdeal_ReferenceIdeal_pre_plain_layer := fun m g m' g' hp hm =>
  ⟨Cert.KernelIdeal.Hand.resultArr m, Cert.KernelIdeal.Hand.run m g,
    (θ_run Cert.ReferenceIdeal.defs _ _).mono (fun r h c => ⟨(h c).1.trans
        ((Cert.ReferenceIdeal.Read.val_main_v78_eq (Idealize.ShloMosaic.StableHlo.launchContents m' c)).trans (Cert.Agree.reference_result m m' hp hm c)), (h c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Pre_plain_layer.Gen.facts,
    frame_kernel, frame_kernelIdeal, fun m ρ _ => frame_kernelIdeal m ρ trivial, frame_referenceIdeal,
    fun m ρ _ => frame_referenceIdeal m ρ trivial, trivial, algebraic⟩

end Cert.Proof

end
